-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S2x1024x4096 : Shape := ⟨3, ![2, 1024, 4096]⟩
abbrev S1024x2048 : Shape := ⟨2, ![1024, 2048]⟩
abbrev S2x512x2048 : Shape := ⟨3, ![2, 512, 2048]⟩
abbrev S8 : Shape := ⟨1, ![8]⟩
abbrev S_ : Shape := ⟨0, ![]⟩
abbrev S2 : Shape := ⟨1, ![2]⟩
abbrev S1 : Shape := ⟨1, ![1]⟩
abbrev S1x512x4096 : Shape := ⟨3, ![1, 512, 4096]⟩
abbrev S512x4096 : Shape := ⟨2, ![512, 4096]⟩
abbrev S512x2048 : Shape := ⟨2, ![512, 2048]⟩
abbrev S1x512x2048 : Shape := ⟨3, ![1, 512, 2048]⟩
abbrev S1x256x4096 : Shape := ⟨3, ![1, 256, 4096]⟩
abbrev S256x4096 : Shape := ⟨2, ![256, 4096]⟩
abbrev S256x2048 : Shape := ⟨2, ![256, 2048]⟩
abbrev S1x256x2048 : Shape := ⟨3, ![1, 256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .f32⟩
  | .hbm, ⟨2, _⟩ => ⟨S4096x2048, .bf16⟩
  | .local _ .vmem, ⟨0, _⟩ => ⟨S1024x4096, .bf16⟩
  | .local _ .vmem, ⟨1, _⟩ => ⟨S2x1024x4096, .bf16⟩
  | .local _ .vmem, ⟨2, _⟩ => ⟨S4096x2048, .bf16⟩
  | .local _ .vmem, ⟨3, _⟩ => ⟨S1024x2048, .f32⟩
  | .local _ .vmem, ⟨4, _⟩ => ⟨S2x512x2048, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v41 : BitVec 32 := Scalar.muli v24 c1_i32_29
  let v42 : BitVec 32 := Scalar.addi c0_i32_30 v41
  v42.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_38 : BitVec 32 := 1#32
  let v50 : BitVec 32 := Scalar.muli v24 c1_i32_38
  let v51 : BitVec 32 := Scalar.addi c0_i32_39 v50
  v51.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_46 : BitVec 32 := 1#32
  let v59 : BitVec 32 := Scalar.muli v13 c1_i32_46
  let v60 : BitVec 32 := Scalar.addi c0_i32_47 v59
  v60.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_54 : BitVec 32 := 1#32
  let v68 : BitVec 32 := Scalar.muli v13 c1_i32_54
  let v69 : BitVec 32 := Scalar.addi c0_i32_55 v68
  v69.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_87 : BitVec 32 := 1024#32
  let v107 : BitVec 32 := Scalar.muli v2 c1024_i32_87
  let c0_i32_95 : BitVec 32 := 0#32
  ![v107.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_99 : BitVec 32 := 1024#32
  let v121 : BitVec 32 := Scalar.muli v2 c1024_i32_99
  let c512_i32_100 : BitVec 32 := 512#32
  let v122 : BitVec 32 := Scalar.addi v121 c512_i32_100
  let c0_i32_108 : BitVec 32 := 0#32
  ![v122.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_132 : BitVec 32 := 1024#32
  let v150 : BitVec 32 := Scalar.muli v13 c1024_i32_132
  let c0_i32_146 : BitVec 32 := 0#32
  ![v150.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_152 : BitVec 32 := 1024#32
  let v169 : BitVec 32 := Scalar.muli v24 c1024_i32_152
  let c0_i32_166 : BitVec 32 := 0#32
  ![v169.toNat, 0]
def k0_dev7 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_170 : BitVec 32 := 1#32
  let v186 : BitVec 32 := Scalar.muli v13 c1_i32_170
  let v187 : BitVec 32 := Scalar.addi c0_i32_171 v186
  v187.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_178 : BitVec 32 := 1#32
  let v188 : BitVec 32 := Scalar.muli v24 c1_i32_178
  let v189 : BitVec 32 := Scalar.addi c0_i32_179 v188
  v189.toNat
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_187 : BitVec 32 := 1#32
  let v198 : BitVec 32 := Scalar.muli v24 c1_i32_187
  let v199 : BitVec 32 := Scalar.addi c0_i32_188 v198
  v199.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_213 : BitVec 32 := 1024#32
  let v224 : BitVec 32 := Scalar.muli v13 c1024_i32_213
  let c512_i32_214 : BitVec 32 := 512#32
  let v225 : BitVec 32 := Scalar.addi v224 c512_i32_214
  let c0_i32_228 : BitVec 32 := 0#32
  ![v225.toNat, 0]
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_232 : BitVec 32 := 1#32
  let v242 : BitVec 32 := Scalar.muli v24 c1_i32_232
  let v243 : BitVec 32 := Scalar.addi c0_i32_233 v242
  v243.toNat
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_239 : BitVec 32 := 1#32
  let v244 : BitVec 32 := Scalar.muli v13 c1_i32_239
  let v245 : BitVec 32 := Scalar.addi c0_i32_240 v244
  v245.toNat
def k0_dev12 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_248 : BitVec 32 := 1#32
  let v254 : BitVec 32 := Scalar.muli v13 c1_i32_248
  let v255 : BitVec 32 := Scalar.addi c0_i32_249 v254
  v255.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_256 : BitVec 32 := 1024#32
  let v266 : BitVec 32 := Scalar.muli v24 c1024_i32_256
  let c512_i32_257 : BitVec 32 := 512#32
  let v267 : BitVec 32 := Scalar.addi v266 c512_i32_257
  let c0_i32_271 : BitVec 32 := 0#32
  ![v267.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1024_i32_287 : BitVec 32 := 1024#32
  let v294 : BitVec 32 := Scalar.muli v35 c1024_i32_287
  let c0_i32_301 : BitVec 32 := 0#32
  ![v294.toNat, 0]
def k0_off8 (d0 : Dev nD) (c256_i32_317 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1024_i32_316 : BitVec 32 := 1024#32
  let v321 : BitVec 32 := Scalar.muli v35 c1024_i32_316
  let v322 : BitVec 32 := Scalar.addi v321 c256_i32_317
  let c0_i32_331 : BitVec 32 := 0#32
  ![v322.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1024_i32_377 : BitVec 32 := 1024#32
  let v377 : BitVec 32 := Scalar.muli v35 c1024_i32_377
  let c512_i32_378 : BitVec 32 := 512#32
  let v378 : BitVec 32 := Scalar.addi v377 c512_i32_378
  let c256_i32_379 : BitVec 32 := 256#32
  let v379 : BitVec 32 := Scalar.addi v378 c256_i32_379
  let c0_i32_393 : BitVec 32 := 0#32
  ![v379.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Cells.lean ====
/-
The ring of four devices, the semaphore cells the devices share, and the windows of the buffers the
kernel works on.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

set_option backward.proofsInPublic true in
/-- The right neighbour. -/
def rt (c : Dev nD) : Dev nD := ⟨(c.val + 1) % 4, Nat.mod_lt _ (by decide)⟩
set_option backward.proofsInPublic true in
/-- The left neighbour. -/
def lf (c : Dev nD) : Dev nD := ⟨(c.val + 3) % 4, Nat.mod_lt _ (by decide)⟩
set_option backward.proofsInPublic true in
/-- The device opposite. -/
def op (c : Dev nD) : Dev nD := ⟨(c.val + 2) % 4, Nat.mod_lt _ (by decide)⟩

/-- The left neighbour of the right neighbour is the device. -/
theorem lf_rt (c : Dev nD) : lf (rt c) = c := by revert c; decide
/-- The right neighbour of the left neighbour is the device. -/
theorem rt_lf (c : Dev nD) : rt (lf c) = c := by revert c; decide
/-- Opposite the right neighbour is the left one. -/
theorem op_rt (c : Dev nD) : op (rt c) = lf c := by revert c; decide
/-- Opposite the left neighbour is the right one. -/
theorem op_lf (c : Dev nD) : op (lf c) = rt c := by revert c; decide
/-- Two steps to the left is the device opposite. -/
theorem lf_lf (c : Dev nD) : lf (lf c) = op c := by revert c; decide
/-- Two steps to the right is the device opposite. -/
theorem rt_rt (c : Dev nD) : rt (rt c) = op c := by revert c; decide

/-- The rotation by one device. -/
def ring : Dev nD ≃ Dev nD := ⟨rt, lf, lf_rt, rt_lf⟩

/-! The devices the kernel's remote operations name. -/

/-- The barrier's first signal goes to the left neighbour. -/
theorem dev1_eq (c : Dev nD) : (⟨k0_dev1 c, k0_dev1_lt c⟩ : Dev nD) = lf c := by revert c; decide
/-- The barrier's second signal goes to the right neighbour. -/
theorem dev2_eq (c : Dev nD) : (⟨k0_dev2 c, k0_dev2_lt c⟩ : Dev nD) = rt c := by revert c; decide
/-- The first hop's upper half goes to the right; -/
theorem dev3_eq (c : Dev nD) : (⟨k0_dev3 c, k0_dev3_lt c⟩ : Dev nD) = rt c := by revert c; decide
/-- and its lower half. -/
theorem dev4_eq (c : Dev nD) : (⟨k0_dev4 c, k0_dev4_lt c⟩ : Dev nD) = rt c := by revert c; decide
/-- The first hop's upper half goes to the left too; -/
theorem dev5_eq (c : Dev nD) : (⟨k0_dev5 c, k0_dev5_lt c⟩ : Dev nD) = lf c := by revert c; decide
/-- and its lower half. -/
theorem dev6_eq (c : Dev nD) : (⟨k0_dev6 c, k0_dev6_lt c⟩ : Dev nD) = lf c := by revert c; decide
/-- The first credit goes to the left neighbour. -/
theorem dev7_eq (c : Dev nD) : (⟨k0_dev7 c, k0_dev7_lt c⟩ : Dev nD) = lf c := by revert c; decide
/-- The second hop's first quarter goes to the right; -/
theorem dev8_eq (c : Dev nD) : (⟨k0_dev8 c, k0_dev8_lt c⟩ : Dev nD) = rt c := by revert c; decide
/-- and its second quarter. -/
theorem dev9_eq (c : Dev nD) : (⟨k0_dev9 c, k0_dev9_lt c⟩ : Dev nD) = rt c := by revert c; decide
/-- The second credit goes to the right neighbour. -/
theorem dev10_eq (c : Dev nD) : (⟨k0_dev10 c, k0_dev10_lt c⟩ : Dev nD) = rt c := by revert c; decide
/-- The second hop's third quarter goes to the left; -/
theorem dev11_eq (c : Dev nD) : (⟨k0_dev11 c, k0_dev11_lt c⟩ : Dev nD) = lf c := by revert c; decide
/-- and its fourth quarter. -/
theorem dev12_eq (c : Dev nD) : (⟨k0_dev12 c, k0_dev12_lt c⟩ : Dev nD) = lf c := by revert c; decide

/-! The rows of the result the kernel's stores go to: the blocks of the device itself, of its two
neighbours, of the device opposite. -/

/-- The upper half of the device's own block. -/
theorem off1_eq (c : Dev nD) : k0_off1 c = ![1024 * c.val, 0] := by revert c; decide
/-- The lower half of the device's own block. -/
theorem off2_eq (c : Dev nD) : k0_off2 c = ![1024 * c.val + 512, 0] := by revert c; decide
/-- The upper half of the left neighbour's block. -/
theorem off3_eq (c : Dev nD) : k0_off3 c = ![1024 * (lf c).val, 0] := by revert c; decide
/-- The upper half of the right neighbour's block. -/
theorem off4_eq (c : Dev nD) : k0_off4 c = ![1024 * (rt c).val, 0] := by revert c; decide
/-- The lower half of the left neighbour's block. -/
theorem off5_eq (c : Dev nD) : k0_off5 c = ![1024 * (lf c).val + 512, 0] := by revert c; decide
/-- The lower half of the right neighbour's block. -/
theorem off6_eq (c : Dev nD) : k0_off6 c = ![1024 * (rt c).val + 512, 0] := by revert c; decide
/-- The first quarter of the opposite device's block. -/
theorem off7_eq (c : Dev nD) : k0_off7 c = ![1024 * (op c).val, 0] := by revert c; decide
/-- The second quarter of the opposite device's block. -/
theorem off8_eq (c : Dev nD) : k0_off8 c 256#32 = ![1024 * (op c).val + 256, 0] := by revert c; decide
/-- The third quarter of the opposite device's block. -/
theorem off8'_eq (c : Dev nD) : k0_off8 c 512#32 = ![1024 * (op c).val + 512, 0] := by revert c; decide
/-- The fourth quarter of the opposite device's block. -/
theorem off9_eq (c : Dev nD) : k0_off9 c = ![1024 * (op c).val + 768, 0] := by revert c; decide

/-! ## The cells -/

/-- The semaphores of a device that another device (or a remote copy of its own) credits: the barrier,
    the two credit semaphores, the eight departure and the eight arrival semaphores. -/
abbrev Cl : Type := Fin 19

/-- The barrier. -/
abbrev bar : Cl := 0
/-- The credit for the upper half of slot 1. -/
abbrev cbr : Cl := 1
/-- The credit for the lower half of slot 0. -/
abbrev cbl : Cl := 2
/-- The send cell of a remote copy. -/
abbrev snd (i : Fin 8) : Cl := ⟨3 + i.val, by omega⟩
/-- The receive cell of a remote copy. -/
abbrev rcv (i : Fin 8) : Cl := ⟨11 + i.val, by omega⟩

/-- The semaphore a cell is. -/
def csem (k : Cl) : SemLoc sig := match k with
  | 0 => .reg 2 | 1 => .reg 0 | 2 => .reg 1
  | ⟨n + 3, h⟩ => .dma ⟨n + 1, by have := h; show n + 1 < 20; omega⟩

/-- The cell a semaphore is, if it is one of the shared ones. -/
def role (s : SemLoc sig) : Option Cl := match s with
  | .reg 0 => some 1 | .reg 1 => some 2 | .reg 2 => some 0
  | .dma q => if h : 1 ≤ q.val ∧ q.val ≤ 16 then some ⟨q.val + 2, by omega⟩ else none

/-- The kind of a shared cell is read back from its semaphore. -/
theorem role_csem (k : Cl) : role (csem k) = some k := by revert k; decide

/-- Different shared cells have different semaphores. -/
theorem csem_injective : Function.Injective csem := fun a b h =>
  Option.some.inj ((role_csem a).symm.trans ((congrArg role h).trans (role_csem b)))

/-- The cell `k` of device `c`. -/
abbrev cell (c : Dev nD) (k : Cl) : GSem nD τ sig := ((c : Thread nD τ), csem k)

end Cert.Ag

end
-- ==== Proof.Windows.lean ====
/-
The windows of the buffers the kernel copies, loads and stores through: which elements each covers,
and which element of the buffer stands at each of its coordinates.
-/
module

public import proofs.«01_k».proof.Proof.Cells
public import Idealize.ShloMosaic.Lib.ValueLayout
public import Idealize.ShloMosaic.Lib.ViewIndex
public import Idealize.ShloMosaic.Lib.Pipeline.Value

@[expose] public section

noncomputable section

namespace Cert.Ag

open Cert.KernelIdeal Cert.KernelIdeal.Gen

open Idealize.ShloMosaic
open Idealize.ShloMosaic.TcCoe
open Idealize.ShloMosaic.ValueIdx

variable {F : FTy → Type} [FloatOps F]

/-! ## The windows -/

/-- 512 rows of the staged block of `x`, from row `r`. -/
abbrev xW (r : ℕ) (h : ∀ a, (![r, 0] : Fin 2 → ℕ) a + S512x4096.size a ≤ S1024x4096.size a) :
    Memref sig .tc .vmem S512x4096 .bf16 :=
  (Memref.whole cc0_stg0_0).slice (Rect.unit (s := S1024x4096) ![r, 0] S512x4096.size h) (fun _ => rfl)

/-- 512 rows of slot `s` of the communication buffer, from row `r`. -/
abbrev cW (s r : ℕ) (h : ∀ a, (![s, r, 0] : Fin 3 → ℕ) a + S1x512x4096.size a ≤ S2x1024x4096.size a) :
    Memref sig .tc .vmem S512x4096 .bf16 :=
  ((Memref.whole cc0_scratch0).slice (Rect.unit (s := S2x1024x4096) ![s, r, 0] S1x512x4096.size h) (fun _ => rfl)).squeeze
    S512x4096 squeezes_S1x512x4096_S512x4096

/-- 256 rows of slot `s` of the communication buffer, from row `r`. -/
abbrev cQ (s r : ℕ) (h : ∀ a, (![s, r, 0] : Fin 3 → ℕ) a + S1x256x4096.size a ≤ S2x1024x4096.size a) :
    Memref sig .tc .vmem S256x4096 .bf16 :=
  ((Memref.whole cc0_scratch0).slice (Rect.unit (s := S2x1024x4096) ![s, r, 0] S1x256x4096.size h) (fun _ => rfl)).squeeze
    S256x4096 squeezes_S1x256x4096_S256x4096

/-- Slot `s` of the output stage, all 512 rows. -/
abbrev gW (s : ℕ) (h : ∀ a, (![s, 0, 0] : Fin 3 → ℕ) a + S1x512x2048.size a ≤ S2x512x2048.size a) :
    Memref sig .tc .vmem S512x2048 .bf16 :=
  ((Memref.whole cc0_scratch3).slice (Rect.unit (s := S2x512x2048) ![s, 0, 0] S1x512x2048.size h) (fun _ => rfl)).squeeze
    S512x2048 squeezes_S1x512x2048_S512x2048

/-- Slot `s` of the output stage, its first 256 rows. -/
abbrev gQ (s : ℕ) (h : ∀ a, (![s, 0, 0] : Fin 3 → ℕ) a + S1x256x2048.size a ≤ S2x512x2048.size a) :
    Memref sig .tc .vmem S256x2048 .bf16 :=
  ((Memref.whole cc0_scratch3).slice (Rect.unit (s := S2x512x2048) ![s, 0, 0] S1x256x2048.size h) (fun _ => rfl)).squeeze
    S256x2048 squeezes_S1x256x2048_S256x2048

/-- 512 rows of the result at the offset `off`. -/
abbrev oW (off : Fin 2 → ℕ) (h : ∀ a, off a + S512x2048.size a ≤ S4096x2048.size a) :
    Memref sig .tc .hbm S512x2048 .bf16 :=
  (Memref.whole main_v1).slice (Rect.unit (s := S4096x2048) off S512x2048.size h) (fun _ => rfl)

/-- 256 rows of the result at the offset `off`. -/
abbrev oQ (off : Fin 2 → ℕ) (h : ∀ a, off a + S256x2048.size a ≤ S4096x2048.size a) :
    Memref sig .tc .hbm S256x2048 .bf16 :=
  (Memref.whole main_v1).slice (Rect.unit (s := S4096x2048) off S256x2048.size h) (fun _ => rfl)

/-- 1024 rows of the weights, from row `r`. -/
abbrev wW (r : ℕ) (h : ∀ a, (![r, 0] : Fin 2 → ℕ) a + S1024x2048.size a ≤ S4096x2048.size a) :
    Memref sig .tc .hbm S1024x2048 .f32 :=
  (Memref.whole main_arg1).slice (Rect.unit (s := S4096x2048) ![r, 0] S1024x2048.size h) (fun _ => rfl)

/-! ## The sets of elements -/

/-- Rows `r … r + n` of slot `s` of a two-slot buffer with rows of length `b`. -/
def slab {a b : ℕ} (s r n : ℕ) : Finset (⟨3, ![2, a, b]⟩ : Shape).Idx :=
  Finset.univ.filter fun i => (i 0).val = s ∧ r ≤ (i 1).val ∧ (i 1).val < r + n

/-- Rows `r … r + n` of a matrix. -/
def band {a b : ℕ} (r n : ℕ) : Finset (⟨2, ![a, b]⟩ : Shape).Idx :=
  Finset.univ.filter fun i => r ≤ (i 0).val ∧ (i 0).val < r + n

/-- The indices of rows of a slot. -/
theorem mem_slab {a b s r n : ℕ} (i : (⟨3, ![2, a, b]⟩ : Shape).Idx) :
    i ∈ slab s r n ↔ (i 0).val = s ∧ r ≤ (i 1).val ∧ (i 1).val < r + n := by
  simp [slab]

/-- The indices of rows. -/
theorem mem_band {a b r n : ℕ} (i : (⟨2, ![a, b]⟩ : Shape).Idx) :
    i ∈ band r n ↔ r ≤ (i 0).val ∧ (i 0).val < r + n := by
  simp [band]

/-- A rectangle of full rows of one slot covers the slab of those rows. -/
theorem rect_slab {a b s r n : ℕ} (h : ∀ k, (![s, r, 0] : Fin 3 → ℕ) k + (⟨3, ![1, n, b]⟩ : Shape).size k ≤ (⟨3, ![2, a, b]⟩ : Shape).size k) :
    (Rect.unit (s := ⟨3, ![2, a, b]⟩) ![s, r, 0] (⟨3, ![1, n, b]⟩ : Shape).size h).set = slab s r n := by
  ext i
  rw [Rect.mem_set_unit, mem_slab]
  have h2 : (i 2).val < b := (i 2).isLt
  constructor
  · intro hi
    have h0 : s ≤ (i 0).val ∧ (i 0).val < s + 1 := hi 0
    have h1 : r ≤ (i 1).val ∧ (i 1).val < r + n := hi 1
    omega
  · rintro ⟨e, h1, h1'⟩ k
    fin_cases k
    · show s ≤ (i 0).val ∧ (i 0).val < s + 1
      omega
    · exact ⟨h1, h1'⟩
    · show 0 ≤ (i 2).val ∧ (i 2).val < 0 + b
      omega

/-- A rectangle of full rows of a matrix covers the band of those rows. -/
theorem rect_band {a b n : ℕ} {off : Fin 2 → ℕ} {r : ℕ} (ho : off = ![r, 0])
    (h : ∀ k, off k + (⟨2, ![n, b]⟩ : Shape).size k ≤ (⟨2, ![a, b]⟩ : Shape).size k) :
    (Rect.unit (s := ⟨2, ![a, b]⟩) off (⟨2, ![n, b]⟩ : Shape).size h).set = band r n := by
  subst ho
  ext i
  rw [Rect.mem_set_unit, mem_band]
  have h1 : (i 1).val < b := (i 1).isLt
  constructor
  · intro hi; exact hi 0
  · intro hi k
    fin_cases k
    · exact hi
    · show 0 ≤ (i 1).val ∧ (i 1).val < 0 + b
      omega

/-- The rows of each window: half of the staged block, -/
theorem xW_set (r : ℕ) (h) : (xW r h).view.set = band r 512 :=
  (View.set_slice_whole cc0_stg0_0 _).trans (rect_band rfl h)
/-- half of a slot of the receive buffer, -/
theorem cW_set (s r : ℕ) (h) : (cW s r h).view.set = slab s r 512 :=
  (Memref.set_view_squeeze _ _).trans ((View.set_slice_whole cc0_scratch0 _).trans (rect_slab h))
/-- a quarter of one, -/
theorem cQ_set (s r : ℕ) (h) : (cQ s r h).view.set = slab s r 256 :=
  (Memref.set_view_squeeze _ _).trans ((View.set_slice_whole cc0_scratch0 _).trans (rect_slab h))
/-- a slot of the stage of the result, -/
theorem gW_set (s : ℕ) (h) : (gW s h).view.set = slab s 0 512 :=
  (Memref.set_view_squeeze _ _).trans ((View.set_slice_whole cc0_scratch3 _).trans (rect_slab h))
/-- half of one, -/
theorem gQ_set (s : ℕ) (h) : (gQ s h).view.set = slab s 0 256 :=
  (Memref.set_view_squeeze _ _).trans ((View.set_slice_whole cc0_scratch3 _).trans (rect_slab h))
/-- 512 rows of the result, -/
theorem oW_set {off : Fin 2 → ℕ} {r : ℕ} (ho : off = ![r, 0]) (h) : (oW off h).view.set = band r 512 :=
  (View.set_slice_whole main_v1 _).trans (rect_band ho h)
/-- 256 rows of it. -/
theorem oQ_set {off : Fin 2 → ℕ} {r : ℕ} (ho : off = ![r, 0]) (h) : (oQ off h).view.set = band r 256 :=
  (View.set_slice_whole main_v1 _).trans (rect_band ho h)

/-! ## The elements at the coordinates -/

/-- An index of a two-axis shape is known by its two coordinates. -/
theorem idx2_ext {a b : ℕ} {i j : (⟨2, ![a, b]⟩ : Shape).Idx} (h0 : (i 0).val = (j 0).val) (h1 : (i 1).val = (j 1).val) : i = j := by
  funext k
  fin_cases k
  · exact Fin.ext h0
  · exact Fin.ext h1

/-- The element a full-row rectangle of a matrix puts at a coordinate. -/
theorem rect_emb2 {a b n : ℕ} {off : Fin 2 → ℕ} {r : ℕ} (ho : off = ![r, 0])
    (h : ∀ k, off k + (⟨2, ![n, b]⟩ : Shape).size k ≤ (⟨2, ![a, b]⟩ : Shape).size k) (j : (⟨2, ![n, b]⟩ : Shape).Idx) :
    ((Rect.unit (s := ⟨2, ![a, b]⟩) off (⟨2, ![n, b]⟩ : Shape).size h).emb j 0).val = r + (j 0).val ∧
    ((Rect.unit (s := ⟨2, ![a, b]⟩) off (⟨2, ![n, b]⟩ : Shape).size h).emb j 1).val = (j 1).val := by
  subst ho
  constructor
  · show r + 1 * (j 0).val = _
    omega
  · show 0 + 1 * (j 1).val = _
    omega

/-- The element a full-row rectangle of one slot, its unit axis dropped, puts at a coordinate. -/
theorem rect_emb3 {a b s r n : ℕ} (h : ∀ k, (![s, r, 0] : Fin 3 → ℕ) k + (⟨3, ![1, n, b]⟩ : Shape).size k ≤ (⟨3, ![2, a, b]⟩ : Shape).size k)
    (hr : (⟨2, ![n, b]⟩ : Shape).numel = (⟨3, ![1, n, b]⟩ : Shape).numel) (j : (⟨2, ![n, b]⟩ : Shape).Idx) :
    ((Rect.unit (s := ⟨3, ![2, a, b]⟩) ![s, r, 0] (⟨3, ![1, n, b]⟩ : Shape).size h).emb (Shape.reshapeEquiv hr j) 0).val = s ∧
    ((Rect.unit (s := ⟨3, ![2, a, b]⟩) ![s, r, 0] (⟨3, ![1, n, b]⟩ : Shape).size h).emb (Shape.reshapeEquiv hr j) 1).val = r + (j 0).val ∧
    ((Rect.unit (s := ⟨3, ![2, a, b]⟩) ![s, r, 0] (⟨3, ![1, n, b]⟩ : Shape).size h).emb (Shape.reshapeEquiv hr j) 2).val = (j 1).val := by
  obtain ⟨x, y, rfl⟩ : ∃ (x : Fin n) (y : Fin b), j = ix2 x y := ⟨j 0, j 1, eq_ix2 j⟩
  rw [reshapeEquiv_ix2_1ab hr x y]
  refine ⟨?_, ?_, ?_⟩
  · show s + 1 * 0 = s
    omega
  · show r + 1 * x.val = r + x.val
    omega
  · show 0 + 1 * y.val = y.val
    omega

/-- Writing through a window what the contents `g` read there gives `g` on the window. -/
theorem write_at {κ : Kind} {sp : Space} {s : Shape} {e : EltTy} {Val : EltTy → Type} (v : View sig κ sp s e) (f : v.ty.Contents Val)
    {p : s.Idx → Val e} {g : v.ty.Contents Val} (hg : v.read Val g = p) :
    ∀ i ∈ v.set, v.write Val f p Finset.univ i = g i := by
  intro i hi
  obtain ⟨j, -, rfl⟩ := Finset.mem_map.mp hi
  exact View.eq_of_read_eq (by rw [View.read_write_univ, hg])

end Cert.Ag

end
-- ==== Proof.Sched.lean ====
/-
What the shared cells promise: the contents that land, the payloads, the one round of every cell, the
debts a device starts with, and the levels that order the waits.
-/
module

public import proofs.«01_k».proof.Proof.Windows

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The algebra -/

/-- The rounds' algebra of the shared cells. -/
abbrev UB : Type := URounds (GSem nD τ sig) Bool
/-- The pipeline's, the shared cells' and the local copies' algebras. -/
abbrev UU : Type := UR sig nD τ × (UB × Counters)

local notation "𝕄" => MT nD τ sig Unit (Elt F) ℕ UU ℕ

/-- The part of the ghost state the library's pipeline uses, -/
abbrev EP : Emb (UR sig nD τ) (MT nD τ sig Unit (Elt F) ℕ UU ℕ) := embL
/-- the part of the rounds, -/
abbrev ER : Emb UB (MT nD τ sig Unit (Elt F) ℕ UU ℕ) := (Emb.inl : Emb UB (UB × Counters)).trans embR
/-- the part of the counters. -/
abbrev EC : UEmb Counters (MT nD τ sig Unit (Elt F) ℕ UU ℕ) := countersEmb

instance er_lands : (ER (F := F)).LandsIn (upEmb : UEmb _ 𝕄) := by unfold ER; unfold embR; infer_instance

variable (m : (ℓ : Loc nD τ sig) → Buf (Elt F) ℓ)

/-! ## Contents -/

/-- The block of `x` staged on device `c`. -/
def xs (c : Dev nD) : (cc0_stg0_0 : Ref sig .tc).ty.Contents (Elt F) :=
  (win0_0.blk (0 : Fin 1)).view.read (Elt F) (m ((c : Thread nD τ).loc main_arg0))

/-- The communication buffer of `c` after the first hop: the left neighbour's block in slot 0, the right one's in slot 1. -/
def L0 (c : Dev nD) : (⟨3, ![2, 1024, 4096]⟩ : Shape).Idx → Elt F .bf16 := fun i =>
  if (i 0).val = 0 then xs m (lf c) (ix2 (n0 := 1024) (n1 := 4096) (i 1) (i 2)) else xs m (rt c) (ix2 (n0 := 1024) (n1 := 4096) (i 1) (i 2))

/-- What the second hop puts over it: the opposite device's block. -/
def L1 (c : Dev nD) : (⟨3, ![2, 1024, 4096]⟩ : Shape).Idx → Elt F .bf16 := fun i =>
  xs m (op c) (ix2 (n0 := 1024) (n1 := 4096) (i 1) (i 2))

/-! ## Pieces of the buffers -/

/-- The share of the staged block the copies to the right take. -/
abbrev qA : PosShare TreeShare := fullShare.left
/-- The share the copies to the left take. -/
abbrev qB : PosShare TreeShare := fullShare.right.left
/-- The share kept for the loads. -/
abbrev qK : PosShare TreeShare := fullShare.right.right

/-- Rows of slot `s` of the communication buffer of `c`. -/
abbrev cP (c : Dev nD) (q : PosShare TreeShare) (s r n : ℕ) (f : Buf (Elt F) ((c : Thread nD τ).loc cc0_scratch0)) : sProp 𝕄 :=
  ((c : Thread nD τ).loc cc0_scratch0) ↦[(slab s r n : Finset (⟨3, ![2, 1024, 4096]⟩ : Shape).Idx)]{q} f
/-- Rows of the staged block of `x`. -/
abbrev xP (c : Dev nD) (q : PosShare TreeShare) (r n : ℕ) (f : Buf (Elt F) ((c : Thread nD τ).loc cc0_stg0_0)) : sProp 𝕄 :=
  ((c : Thread nD τ).loc cc0_stg0_0) ↦[(band r n : Finset (⟨2, ![1024, 4096]⟩ : Shape).Idx)]{q} f
/-- Rows of slot `s` of the output stage. -/
abbrev gP (c : Dev nD) (s r n : ℕ) (f : Buf (Elt F) ((c : Thread nD τ).loc cc0_scratch3)) : sProp 𝕄 :=
  ((c : Thread nD τ).loc cc0_scratch3) ↦[(slab s r n : Finset (⟨3, ![2, 512, 2048]⟩ : Shape).Idx)]{fullShare} f
/-- Rows of the result. -/
abbrev oP (c : Dev nD) (r n : ℕ) (f : Buf (Elt F) ((c : Thread nD τ).loc main_v1)) : sProp 𝕄 :=
  ((c : Thread nD τ).loc main_v1) ↦[(band r n : Finset (⟨2, ![4096, 2048]⟩ : Shape).Idx)]{fullShare} f

/-! ## The schedule -/

/-- The credit of a copy of 512 rows of a block. -/
def NH : ℕ := (cW 0 0 inb_S2x1024x4096_S1x512x4096_0_0_0).view.dmaCredit
/-- The credit of a copy of 256 rows of a block. -/
def NQ : ℕ := (cQ 0 0 inb_S2x1024x4096_S1x256x4096_0_0_0).view.dmaCredit
/-- It is positive; -/
theorem NH_pos : 0 < NH := View.dmaCredit_pos _ (by decide)
/-- so is this one. -/
theorem NQ_pos : 0 < NQ := View.dmaCredit_pos _ (by decide)

/-- The units of a duty of each kind of cell. -/
def amt : Cl → ℕ := ![1, 1, 1, NH, NH, NH, NH, NQ, NQ, NQ, NQ, NH, NH, NH, NH, NQ, NQ, NQ, NQ]

/-- Every duty has units. -/
theorem amt_pos (k : Cl) : 0 < amt k := by
  fin_cases k <;> first | exact Nat.one_pos | exact NH_pos | exact NQ_pos

/-- What the units of a duty hand to the owner `c`: at the ready cells the neighbour's landing rows, at the
    send cells the source back, at the receive cells the rows landed. -/
def pay (c : Dev nD) (d : Bool) : Cl → sProp 𝕄 :=
  ![ if d then iprop(∃ f, cP (rt c) fullShare 0 0 1024 f) else iprop(∃ f, cP (lf c) fullShare 1 0 1024 f),
     iprop(∃ f, cP (rt c) fullShare 1 0 512 f), iprop(∃ f, cP (lf c) fullShare 0 512 512 f),
     xP c qA 0 512 (xs m c), xP c qA 512 512 (xs m c), xP c qB 0 512 (xs m c), xP c qB 512 512 (xs m c),
     cP c fullShare 0 0 256 (L0 m c), cP c fullShare 0 256 256 (L0 m c),
     cP c fullShare.left 1 512 256 (L0 m c), cP c fullShare.left 1 768 256 (L0 m c),
     cP c fullShare 0 0 512 (L0 m c), cP c fullShare 0 512 512 (L0 m c),
     cP c fullShare 1 0 512 (L0 m c), cP c fullShare 1 512 512 (L0 m c),
     cP c fullShare 1 0 256 (L1 m c), cP c fullShare 1 256 256 (L1 m c),
     cP c fullShare 0 512 256 (L1 m c), cP c fullShare 0 768 256 (L1 m c) ]

/-- Assertions in a list can be stored when each can. -/
theorem storable_cons {n : ℕ} {P : sProp 𝕄} {v : Fin n → sProp 𝕄} (hP : BI.Storable (upEmb : UEmb _ 𝕄) P)
    (hv : ∀ k, BI.Storable (upEmb : UEmb _ 𝕄) (v k)) : ∀ k : Fin (n + 1), BI.Storable (upEmb : UEmb _ 𝕄) (Matrix.vecCons P v k) :=
  Fin.cases hP hv

instance pay_storable (c : Dev nD) (d : Bool) (k : Cl) : BI.Storable (upEmb : UEmb _ 𝕄) (pay (F := F) m c d k) := by
  revert k
  unfold pay
  refine storable_cons (by split <;> infer_instance) ?_
  iterate 18 refine storable_cons (by infer_instance) ?_
  exact fun k => k.elim0

/-- One round, round 0: the barrier cell has two duties of one unit, every other shared cell one duty. -/
def sched : Rounds.Schedule (GSem nD τ sig) Bool 𝕄 where
  duties g r := if r = 0 ∧ g.1.2 = .tc then (match role g.2 with | some k => if k = bar then Finset.univ else {false} | none => ∅) else ∅
  unitless _ := False
  amount g _ _ := match role g.2 with | some k => amt k | none => 1
  payload g _ d := match role g.2 with | some k => pay m g.1.1 d k | none => iprop(emp)
  amount_pos g _ _ _ := by
    cases role g.2 with
    | none => exact Nat.one_pos
    | some k => exact amt_pos k

instance sched_storable (g : GSem nD τ sig) (r : ℕ) (d : Bool) : BI.Storable (upEmb : UEmb _ 𝕄) ((sched (F := F) m).payload g r d) := by
  show BI.Storable upEmb (match role g.2 with | some k => pay m g.1.1 d k | none => iprop(emp))
  split <;> infer_instance

/-- The duties of a shared cell. -/
theorem duties_cell (c : Dev nD) (k : Cl) : (sched (F := F) m).duties (cell c k) 0 = if k = bar then Finset.univ else {false} := by
  dsimp only [sched]
  rw [if_pos ⟨rfl, rfl⟩, show role (cell c k).2 = some k from role_csem k]
/-- A cell but the barrier has one duty; -/
theorem duties_one (c : Dev nD) {k : Cl} (hk : k ≠ bar) : (sched (F := F) m).duties (cell c k) 0 = {false} := by
  rw [duties_cell, if_neg hk]
/-- the barrier has two. -/
theorem duties_bar (c : Dev nD) : (sched (F := F) m).duties (cell c bar) 0 = Finset.univ := by
  rw [duties_cell, if_pos rfl]
/-- Every shared cell has the first duty. -/
theorem mem_duties (c : Dev nD) (k : Cl) : false ∈ (sched (F := F) m).duties (cell c k) 0 := by
  rw [duties_cell]; split
  · exact Finset.mem_univ _
  · exact Finset.mem_singleton_self _
/-- There is no further round. -/
theorem duties_later (g : GSem nD τ sig) : ∀ r, 1 ≤ r → (sched (F := F) m).duties g r = ∅ :=
  fun r hr => by dsimp only [sched]; rw [if_neg fun h => by omega]
/-- The units of a shared cell's duty. -/
theorem amount_cell (c : Dev nD) (k : Cl) (r : ℕ) (d : Bool) : (sched (F := F) m).amount (cell c k) r d = amt k := by
  dsimp only [sched]; rw [show role (cell c k).2 = some k from role_csem k]
/-- The payload of a shared cell's duty. -/
theorem payload_cell (c : Dev nD) (k : Cl) (r : ℕ) (d : Bool) : (sched (F := F) m).payload (cell c k) r d = pay m c d k := by
  dsimp only [sched]; rw [show role (cell c k).2 = some k from role_csem k]
/-- The units of a round of one duty; -/
theorem expect_one (c : Dev nD) {k : Cl} (hk : k ≠ bar) : (sched (F := F) m).expect (cell c k) 0 = amt k := by
  unfold Schedule.expect Schedule.amountOf; rw [duties_one m c hk, Finset.sum_singleton, amount_cell]
/-- of the barrier's. -/
theorem expect_bar (c : Dev nD) : (sched (F := F) m).expect (cell c bar) 0 = 2 := by
  unfold Schedule.expect Schedule.amountOf
  rw [duties_bar, Finset.sum_congr rfl fun d _ => amount_cell m c bar 0 d, Finset.sum_const, Finset.card_univ, Fintype.card_bool, smul_eq_mul]
  rfl

/-- The round of a cell with one duty hands over that duty's payload; -/
theorem rest_one (c : Dev nD) {k : Cl} (hk : k ≠ bar) :
    bigSep ((sched (F := F) m).duties (cell c k) 0 \ ∅) (fun d => (sched (F := F) m).payload (cell c k) 0 d) = pay m c false k := by
  rw [Finset.sdiff_empty, duties_one m c hk, bigSep_singleton, payload_cell]
/-- the barrier's round those of both neighbours. -/
theorem rest_bar (c : Dev nD) :
    bigSep ((sched (F := F) m).duties (cell c bar) 0 \ ∅) (fun d => (sched (F := F) m).payload (cell c bar) 0 d)
      = iprop((∃ f, cP (F := F) (lf c) fullShare 1 0 1024 f) ∗ (∃ f, cP (F := F) (rt c) fullShare 0 0 1024 f)) := by
  rw [Finset.sdiff_empty, duties_bar, bigSep_univ_eq_bigSepL [false, true] (by decide) (by decide), bigSepL_cons_cons, bigSepL_singleton,
    payload_cell, payload_cell]
  rfl

/-! ## Debts and levels -/

/-- What the debts of a list come to, the first debt the last summand. -/
def oweL (l : List (Dev nD × Cl)) : CellTallies nD τ sig Unit := l.foldr (fun x acc => acc + tallyAt (cell x.1 x.2) () (amt x.2)) 0

/-- The debts of device `c`, in the order it pays them. -/
def debts (c : Dev nD) : List (Dev nD × Cl) :=
  [(lf c, bar), (rt c, bar), (rt c, rcv 0), (rt c, rcv 1), (lf c, rcv 2), (lf c, rcv 3), (lf c, cbr), (rt c, rcv 4), (rt c, rcv 5),
   (rt c, cbl), (lf c, rcv 6), (lf c, rcv 7)]

/-- The level of a shared cell. -/
def lvC : Cl → ℕ := ![1, 3, 4, 0, 0, 0, 0, 0, 0, 0, 0, 2, 2, 2, 2, 5, 5, 5, 5]
/-- The level of a semaphore: the local ones and the send ones lowest. -/
def lvS (sm : SemLoc sig) : ℕ := match role sm with | some k => lvC k | none => 0

/-- The labels of a cell. -/
def L (g : GSem nD τ sig) : Finset Unit := if g.1.2 = .tc then {()} else ∅
/-- The level of a cell. -/
def lv (g : GSem nD τ sig) (_ : Unit) : ℕ := lvS g.2

/-- Nothing is owed to a cell off the main core. -/
theorem L_of_ne (g : GSem nD τ sig) (h : g.1.2 ≠ .tc) : L g = ∅ := if_neg h
/-- A cell of the main core has one label. -/
theorem L_tc (c : Dev nD) (sm : SemLoc sig) : L ((c : Thread nD τ), sm) = {()} := if_pos rfl
/-- The level of a shared cell is that of its kind. -/
theorem lv_cell (c : Dev nD) (k : Cl) (u : Unit) : lv (cell c k) u = lvC k := by
  show lvS (csem k) = _
  unfold lvS; rw [role_csem]

/-- A cell is owed to only where the list names it. -/
theorem oweL_pos {l : List (Dev nD × Cl)} {g : GSem nD τ sig} {u : Unit} (h : 0 < oweL l g u) : ∃ x ∈ l, g = cell x.1 x.2 := by
  induction l with
  | nil => exact absurd h (Nat.lt_irrefl 0)
  | cons x l ih =>
    have h' : 0 < (oweL l + tallyAt (cell x.1 x.2) () (amt x.2)) g u := h
    rw [Pi.add_apply, Finsupp.add_apply, tallyAt_apply] at h'
    by_cases hg : g = cell x.1 x.2
    · exact ⟨x, List.mem_cons_self .., hg⟩
    · rw [if_neg fun h => hg h.1, Nat.add_zero] at h'
      obtain ⟨y, hy, e⟩ := ih h'
      exact ⟨y, List.mem_cons_of_mem _ hy, e⟩

/-- A semaphore may be waited on while everything still owed is of a higher level. -/
theorem mayWait_list (c : Dev nD) (sm : SemLoc sig) (l : List (Dev nD × Cl)) (h : ∀ k ∈ l.map Prod.snd, lvS sm < lvC k) :
    (levAts L lv : sProp 𝕄) ⊢ MayWait (c : Thread nD τ) sm () (oweL l) :=
  Pipeline.mayWait_of_levAts (by rw [L_tc]; exact Finset.mem_singleton_self _) fun g i hg => by
    obtain ⟨x, hx, rfl⟩ := oweL_pos hg
    refine ⟨by rw [L_tc]; exact Finset.mem_singleton_self _, ?_⟩
    rw [lv_cell]
    exact h x.2 (List.mem_map_of_mem hx)

/-- What device `c` owes, the waits it has made left open. -/
def ow (c : Dev nD) (l : List (Dev nD × Cl)) : sProp 𝕄 := iprop(∃ W, owes (c : Thread nD τ) (oweL l) W)

/-- The records every device holds: the cells' invariants, that each is in its round 0, and the levels. -/
def recs (κ : Dev nD × Cl → ℕ) : sProp 𝕄 :=
  iprop((∀ p : Dev nD × Cl, cellInv ER (sched m) (κ p) (cell p.1 p.2)) ∗ (∀ p : Dev nD × Cl, reached ER (cell p.1 p.2) 0) ∗ levAts L lv)

instance recs_persistent (κ : Dev nD × Cl → ℕ) : BI.Persistent (recs (F := F) m κ) := by unfold recs; infer_instance

/-- A cell's invariant, -/
theorem recs_inv (κ : Dev nD × Cl → ℕ) (d : Dev nD) (k : Cl) : recs (F := F) m κ ⊢ cellInv ER (sched m) (κ (d, k)) (cell d k) := by
  unfold recs
  iintro ⟨H, -, -⟩
  iapply H $$ %(d, k)
/-- its round reached, -/
theorem recs_reached (κ : Dev nD × Cl → ℕ) (d : Dev nD) (k : Cl) : recs (F := F) m κ ⊢ reached ER (cell d k) 0 := by
  unfold recs
  iintro ⟨-, H, -⟩
  iapply H $$ %(d, k)
/-- and the levels, from the records. -/
theorem recs_lev (κ : Dev nD × Cl → ℕ) : recs (F := F) m κ ⊢ levAts L lv := by
  unfold recs
  iintro ⟨-, -, H⟩
  iexact H

end Cert.Ag

end
-- ==== Proof.Values.lean ====
/-
What the kernel computes: the rounded weights, the products of the row blocks, the result, and what
each window reads of the contents the run leaves.
-/
module

public import proofs.«01_k».proof.Proof.Sched

@[expose] public section

noncomputable section

namespace Cert.Ag

open Cert.KernelIdeal Cert.KernelIdeal.Gen

open Idealize.ShloMosaic
open Idealize.ShloMosaic.TcCoe
open Idealize.ShloMosaic.ValueIdx

variable {F : FTy → Type} [FloatOps F]
variable (m : (ℓ : Loc nD τ sig) → Buf (Elt F) ℓ)

/-! ## The products -/

/-- The weights of device `c`, rounded. -/
def wb (c : Dev nD) : FVec F S4096x2048 .bf16 :=
  truncf .bf16 (m ((c : Thread nD τ).loc main_arg1) : FVec F S4096x2048 .f32) bitsLt_bf16_f32

/-- The product of 512 rows with the rounded weights, rounded. -/
def prodH (v : FVec F S512x4096 .bf16) (w : FVec F S4096x2048 .bf16) : FVec F S512x2048 .bf16 :=
  truncf .bf16 (matmul dot_S512x4096_S4096x2048_S512x2048_1_0_0_1_n_n none v w (constant S512x2048 .f32 0x00000000#32)) bitsLt_bf16_f32

/-- The product of 256 rows with the rounded weights, rounded. -/
def prodQ (v : FVec F S256x4096 .bf16) (w : FVec F S4096x2048 .bf16) : FVec F S256x2048 .bf16 :=
  truncf .bf16 (matmul dot_S256x4096_S4096x2048_S256x2048_1_0_0_1_n_n none v w (constant S256x2048 .f32 0x00000000#32)) bitsLt_bf16_f32

/-- `n` rows of the block of `x` of device `d`, from row `r`. -/
def xRow (n : ℕ) (d : Dev nD) (r : ℕ) : (⟨2, ![n, 4096]⟩ : Shape).Idx → Elt F .bf16 := fun j =>
  xs m d (ix2 (n0 := 1024) (n1 := 4096) ⟨(r + (j 0).val) % 1024, Nat.mod_lt _ (by decide)⟩ (j 1))

/-- The device whose block of `x` a row of the result comes from. -/
def own (i : (⟨2, ![4096, 2048]⟩ : Shape).Idx) : Dev nD :=
  ⟨(i 0).val / 1024, by have h : (i 0).val < 4096 := (i 0).isLt; show _ < 4; omega⟩

/-- The result on device `c`: the opposite device's rows in four products of 256 rows, every other device's in two of 512. -/
def outF (c : Dev nD) : (⟨2, ![4096, 2048]⟩ : Shape).Idx → Elt F .bf16 := fun i =>
  if own i = op c then
    prodQ (xRow m 256 (own i) ((i 0).val % 1024 / 256 * 256)) (wb m c) (ix2 (n0 := 256) (n1 := 2048) ⟨(i 0).val % 256, Nat.mod_lt _ (by decide)⟩ (i 1))
  else
    prodH (xRow m 512 (own i) ((i 0).val % 1024 / 512 * 512)) (wb m c) (ix2 (n0 := 512) (n1 := 2048) ⟨(i 0).val % 512, Nat.mod_lt _ (by decide)⟩ (i 1))

/-! ## What the windows read -/

/-- A half of the staged block, read. -/
theorem read_xW (c : Dev nD) (r : ℕ) (h) : (xW r h).view.read (Elt F) (xs m c) = xRow m 512 c r := by
  have hr : r + 512 ≤ 1024 := h 0
  funext j
  have hj : (j 0).val < 512 := (j 0).isLt
  obtain ⟨e0, e1⟩ := rect_emb2 (a := 1024) (b := 4096) (n := 512) (rfl : (![r, 0] : Fin 2 → ℕ) = ![r, 0]) h j
  refine congrArg (xs m c) (idx2_ext (a := 1024) (b := 4096) ?_ ?_)
  · refine e0.trans ?_
    show _ = (r + (j 0).val) % 1024
    rw [Nat.mod_eq_of_lt (by omega)]
  · exact e1

/-- Rows of the left neighbour's block in slot 0, the right neighbour's in slot 1. -/
theorem L0_at (c d : Dev nD) {n s r : ℕ} (hd : if s = 0 then d = lf c else d = rt c) (hr : r + n ≤ 1024)
    (i : (⟨3, ![2, 1024, 4096]⟩ : Shape).Idx) (j : (⟨2, ![n, 4096]⟩ : Shape).Idx)
    (e0 : (i 0).val = s) (e1 : (i 1).val = r + (j 0).val) (e2 : (i 2).val = (j 1).val) : L0 m c i = xRow m n d r j := by
  have hj : (j 0).val < n := (j 0).isLt
  have hx : ix2 (n0 := 1024) (n1 := 4096) (i 1) (i 2) = ix2 (n0 := 1024) (n1 := 4096) ⟨(r + (j 0).val) % 1024, Nat.mod_lt _ (by decide)⟩ (j 1) :=
    idx2_ext (a := 1024) (b := 4096) (e1.trans (Nat.mod_eq_of_lt (by omega)).symm) e2
  unfold L0 xRow
  rw [hx, e0]
  split at hd
  · rename_i hs; rw [if_pos hs, hd]
  · rename_i hs; rw [if_neg hs, hd]

/-- Rows of the opposite device's block. -/
theorem L1_at (c : Dev nD) {n r : ℕ} (hr : r + n ≤ 1024)
    (i : (⟨3, ![2, 1024, 4096]⟩ : Shape).Idx) (j : (⟨2, ![n, 4096]⟩ : Shape).Idx)
    (e1 : (i 1).val = r + (j 0).val) (e2 : (i 2).val = (j 1).val) : L1 m c i = xRow m n (op c) r j := by
  have hj : (j 0).val < n := (j 0).isLt
  have hx : ix2 (n0 := 1024) (n1 := 4096) (i 1) (i 2) = ix2 (n0 := 1024) (n1 := 4096) ⟨(r + (j 0).val) % 1024, Nat.mod_lt _ (by decide)⟩ (j 1) :=
    idx2_ext (a := 1024) (b := 4096) (e1.trans (Nat.mod_eq_of_lt (by omega)).symm) e2
  unfold L1 xRow
  rw [hx]

/-- A half of a slot after the first hop: rows of the neighbour's block. -/
theorem read_cW (c d : Dev nD) (s r : ℕ) (h) (hd : if s = 0 then d = lf c else d = rt c) :
    (cW s r h).view.read (Elt F) (L0 m c) = xRow m 512 d r := by
  funext j
  obtain ⟨e0, e1, e2⟩ := rect_emb3 (a := 1024) (b := 4096) (n := 512) h squeezes_S1x512x4096_S512x4096.numel_eq j
  exact L0_at m c d hd (h 1) _ j e0 e1 e2

/-- A quarter of a slot after the first hop. -/
theorem read_cQ (c d : Dev nD) (s r : ℕ) (h) (hd : if s = 0 then d = lf c else d = rt c) :
    (cQ s r h).view.read (Elt F) (L0 m c) = xRow m 256 d r := by
  funext j
  obtain ⟨e0, e1, e2⟩ := rect_emb3 (a := 1024) (b := 4096) (n := 256) h squeezes_S1x256x4096_S256x4096.numel_eq j
  exact L0_at m c d hd (h 1) _ j e0 e1 e2

/-- A quarter of a slot after the second hop: rows of the opposite device's block. -/
theorem read_cQ' (c : Dev nD) (s r : ℕ) (h) :
    (cQ s r h).view.read (Elt F) (L1 m c) = xRow m 256 (op c) r := by
  funext j
  obtain ⟨e0, e1, e2⟩ := rect_emb3 (a := 1024) (b := 4096) (n := 256) h squeezes_S1x256x4096_S256x4096.numel_eq j
  exact L1_at m c (h 1) _ j e1 e2

/-- Rows of the result that come from a neighbour or the device itself. -/
theorem read_oW (c d : Dev nD) {off : Fin 2 → ℕ} (r : ℕ) (ho : off = ![1024 * d.val + r, 0]) (h) (hd : d ≠ op c) (hr : r = 0 ∨ r = 512) :
    (oW off h).view.read (Elt F) (outF m c) = prodH (xRow m 512 d r) (wb m c) := by
  subst ho
  funext j
  have hj : (j 0).val < 512 := (j 0).isLt
  obtain ⟨e0, e1⟩ := rect_emb2 (a := 4096) (b := 2048) (n := 512) (rfl : (![1024 * d.val + r, 0] : Fin 2 → ℕ) = ![1024 * d.val + r, 0]) h j
  generalize hi : (Rect.unit (s := ⟨2, ![4096, 2048]⟩) ![1024 * d.val + r, 0] (⟨2, ![512, 2048]⟩ : Shape).size h).emb j = i at e0 e1
  show outF m c ((Rect.unit (s := ⟨2, ![4096, 2048]⟩) ![1024 * d.val + r, 0] (⟨2, ![512, 2048]⟩ : Shape).size h).emb j) = _
  rw [hi]
  have hown : own i = d := Fin.ext (by show (i 0).val / 1024 = d.val; omega)
  have hrow : (i 0).val % 1024 / 512 * 512 = r := by omega
  unfold outF
  rw [hown, if_neg hd, hrow]
  refine congrArg (prodH (xRow m 512 d r) (wb m c)) (idx2_ext (a := 512) (b := 2048) ?_ e1)
  show (i 0).val % 512 = (j 0).val
  omega

/-- Rows of the result that come from the opposite device. -/
theorem read_oQ (c : Dev nD) {off : Fin 2 → ℕ} (r : ℕ) (ho : off = ![1024 * (op c).val + r, 0]) (h) (hr : r % 256 = 0 ∧ r < 1024) :
    (oQ off h).view.read (Elt F) (outF m c) = prodQ (xRow m 256 (op c) r) (wb m c) := by
  subst ho
  funext j
  have hj : (j 0).val < 256 := (j 0).isLt
  obtain ⟨e0, e1⟩ := rect_emb2 (a := 4096) (b := 2048) (n := 256) (rfl : (![1024 * (op c).val + r, 0] : Fin 2 → ℕ) = ![1024 * (op c).val + r, 0]) h j
  generalize hi : (Rect.unit (s := ⟨2, ![4096, 2048]⟩) ![1024 * (op c).val + r, 0] (⟨2, ![256, 2048]⟩ : Shape).size h).emb j = i at e0 e1
  show outF m c ((Rect.unit (s := ⟨2, ![4096, 2048]⟩) ![1024 * (op c).val + r, 0] (⟨2, ![256, 2048]⟩ : Shape).size h).emb j) = _
  rw [hi]
  have hown : own i = op c := Fin.ext (by show (i 0).val / 1024 = (op c).val; omega)
  have hrow : (i 0).val % 1024 / 256 * 256 = r := by omega
  unfold outF
  rw [hown, if_pos rfl, hrow]
  refine congrArg (prodQ (xRow m 256 (op c) r) (wb m c)) (idx2_ext (a := 256) (b := 2048) ?_ e1)
  show (i 0).val % 256 = (j 0).val
  omega

/-! ## What the loads and stores pass -/

/-- The rounded rows of the weights stored are those of the rounded weights. -/
theorem read_wb (c : Dev nD) (r : ℕ) (h h') :
    ((Memref.whole cc0_scratch1).access (Rect.unit (s := S4096x2048) ![r, 0] S1024x2048.size h) : View sig .tc _ _ _).read (Elt F) (wb m c)
      = k0_pay1 ((wW r h').view.read (Elt F) (m ((c : Thread nD τ).loc main_arg1))) := by
  funext j
  unfold k0_pay1
  rw [shapeCast_self]
  rfl

/-- The first half product. -/
theorem pay5_eq (v : FVec F S512x4096 .bf16) (w : FVec F S4096x2048 .bf16) : k0_pay5 v w = prodH v w := by
  unfold k0_pay5 prodH; rw [shapeCast_self]
/-- The second half product, as it is stored. -/
theorem pay7_eq (v : FVec F S512x4096 .bf16) (w : FVec F S4096x2048 .bf16) : k0_pay7 v w = k0_pay6 (prodH v w) := by
  unfold k0_pay7 prodH; rw [shapeCast_self]; rfl

/-- A squeezed window reads back the vector stored, with its unit axis, through the rectangle it is cut from. -/
theorem read_squeeze_store {κ : Kind} {sp : Space} {s s' : Shape} {e : EltTy} {Val : EltTy → Type} (M : Memref sig κ sp s e) (r : Rect s)
    (hr : ∀ a, r.stride a = 1) (hq : r.shape.Squeezes s') (hc : s'.ShapeCasts r.shape) (f : M.view.ty.Contents Val) (v : s'.Idx → Val e) :
    ((M.slice r hr).squeeze s' hq).view.read Val ((M.view.slice r).write Val f (shapeCast r.shape v hc) Finset.univ) = v := by
  funext j
  refine (View.read_write_of_mem (v := M.view.slice r) f _ (Finset.mem_univ (Shape.reshapeEquiv hq.numel_eq j))).trans ?_
  unfold shapeCast
  rw [Shape.reshapeEquiv_reshapeEquiv, Shape.reshapeEquiv_self]

/-- What a slot of the stage reads after rows are stored over it. -/
theorem read_gW (s : ℕ) (h) (f : (cc0_scratch3 : Ref sig .tc).ty.Contents (Elt F)) (v : FVec F S512x2048 .bf16) :
    (gW s h).view.read (Elt F) (((Memref.whole cc0_scratch3).access (Rect.unit (s := S2x512x2048) ![s, 0, 0] S1x512x2048.size h) : View sig .tc _ _ _).write (Elt F) f
      (shapeCast S1x512x2048 v shapeCasts_S512x2048_S1x512x2048) Finset.univ) = v :=
  read_squeeze_store (Memref.whole cc0_scratch3) (Rect.unit (s := S2x512x2048) ![s, 0, 0] S1x512x2048.size h) (fun _ => rfl)
    squeezes_S1x512x2048_S512x2048 shapeCasts_S512x2048_S1x512x2048 f v

/-- A product of 256 rows is read back as it was stored. -/
theorem read_gQ (s : ℕ) (h) (f : (cc0_scratch3 : Ref sig .tc).ty.Contents (Elt F)) (v : FVec F S256x2048 .bf16) :
    (gQ s h).view.read (Elt F) (((Memref.whole cc0_scratch3).access (Rect.unit (s := S2x512x2048) ![s, 0, 0] S1x256x2048.size h) : View sig .tc _ _ _).write (Elt F) f
      (shapeCast S1x256x2048 v shapeCasts_S256x2048_S1x256x2048) Finset.univ) = v :=
  read_squeeze_store (Memref.whole cc0_scratch3) (Rect.unit (s := S2x512x2048) ![s, 0, 0] S1x256x2048.size h) (fun _ => rfl)
    squeezes_S1x256x2048_S256x2048 shapeCasts_S256x2048_S1x256x2048 f v

end Cert.Ag

end
-- ==== Proof.Steps.lean ====
/-
The kernel's operations on shared cells, each as one rule: a signal pays a debt, a wait takes a payload and
closes its cell, a remote copy pays the receive cell and leaves its own send cell to be waited for.
-/
module

public import proofs.«01_k».proof.Proof.Values

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- No loop of the program needs a variant. -/
abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The right to wait for the round of cell `k` of `c`. -/
def rdy (c : Dev nD) (k : Cl) : sProp 𝕄 := iprop(atPos ER (cell c k) 0 ∅ 0 ∗ cred (tallyAt (cell c k) () (amt k)))
/-- The right to issue a copy on the send cell `k` of `c`. -/
def tk (c : Dev nD) (k : Cl) : sProp 𝕄 := iprop(atPos ER (cell c k) 0 ∅ 0 ∗ dutyTok ER (cell c k) 0 false)
/-- The right to pay the duty `d` of cell `k` of `e`. -/
abbrev tok (e : Dev nD) (k : Cl) (d : Bool) : sProp 𝕄 := dutyTok ER (cell e k) 0 d
/-- The counter of cell `k` of `c` at zero, for good. -/
abbrev zero (c : Dev nD) (k : Cl) : sProp 𝕄 := semVal (cell c k) 0

/-- After its round a cell's counter is taken back, at zero. -/
theorem close_cell (c : Dev nD) (k : Cl) :
    iprop(recs (F := F) m κ ∗ atPos ER (cell c k) (0 + 1) ∅ 0) ⊢ iprop(|={Set.univ}=> semVal (cell c k) 0) := by
  iintro ⟨#HR, Hat⟩
  ihave #Hi := (recs_inv m κ c k) $$ HR
  iapply (Rounds.cell_close ER (sched m) (Set.mem_univ (κ (c, k))) (fun h => h) (R := 0 + 1) (fun r hr => duties_later m _ r hr))
  isplitr; · iexact Hi
  iexact Hat

variable {α : Type} {Q : α → sProp (MT nD τ sig Unit (Elt F) ℕ UU ℕ)} {kk : PUnit → Prog (TpuEff nD τ sig (Elt F) Λ₀ .tc) α}

/-- A signal pays a duty of one unit. -/
theorem st_signal (c e n : Dev nD) (k : Cl) (d : Bool) (l l' : List (Dev nD × Cl)) (hl : l = (e, k) :: l')
    (hd : d ∈ (sched (F := F) m).duties (cell e k) 0) {sem : Sem sig} {u : ℕ} (hn : n = e) (hsem : SemLoc.reg sem = csem k) (hu : amt k = u) :
    iprop(recs m κ ∗ ow c l ∗ tok e k d ∗ pay m e d k)
      ⊢ iprop((ow c l' -∗ WP c (kk ⟨⟩) Q) -∗ WP c (.op (.semSignal (Dev.tc n : Thread nD τ) sem u) kk) Q) := by
  subst hn hl
  have hc : cell n k = ((n : Thread nD τ), SemLoc.reg sem) := by rw [hsem]
  have hO : oweL ((n, k) :: l') = oweL l' + tallyAt ((n : Thread nD τ), SemLoc.reg sem) () u := by
    show oweL l' + tallyAt (cell n k) () (amt k) = _
    rw [hc, hu]
  have ha : (sched (F := F) m).amount ((n : Thread nD τ), SemLoc.reg sem) 0 d = u := by rw [← hc, amount_cell, hu]
  have hp := payload_cell m n k 0 d
  iintro ⟨#HR, Ho, Ht, Hp⟩ Hk
  ihave #Hi := (recs_inv m κ n k) $$ HR
  ihave #Hr := (recs_reached m κ n k) $$ HR
  unfold ow
  icases Ho with ⟨%W, HO⟩
  rw [hc] at hd hp
  unfold tok
  rw [hc]
  iapply (Rounds.wp_signal 𝒱₀ ER (sched m) (c : Thread nD τ) none (dst := (n : Thread nD τ)) (κ := κ (n, k)) (d := d) hd ha () (oweL l') hO)
    $$ [HO Ht Hp]
  · isplitr; · iexact Hi
    isplitl [HO]; · iexact HO
    isplitl [Ht]; · iexact Ht
    isplitl [Hp]; · rw [hp]; iexact Hp
    iexact Hr
  iintro HO
  iapply Hk
  iexists W; iexact HO

/-- The wait for a cell with one duty takes its payload and closes the cell. -/
theorem st_take (c : Dev nD) (k : Cl) (hk : k ≠ bar) (l : List (Dev nD × Cl)) (hlv : ∀ k' ∈ l.map Prod.snd, lvC k < lvC k')
    {sm : SemLoc sig} (hsm : sm = csem k) {w : TpuEff nD τ sig (Elt F) Λ₀ .tc PUnit} {u : ℕ} (hu : u = amt k)
    (hw : ∀ K : PUnit → sProp 𝕄, wpE (defs₀ (F := F)) 𝒱₀ (c : Thread nD τ) none Set.univ w K = waitSpec (c : Thread nD τ) Set.univ sm u K) :
    iprop(recs m κ ∗ rdy c k ∗ ow c l)
      ⊢ iprop(((zero c k ∗ pay m c false k ∗ ow c l) -∗ WP c (kk ⟨⟩) Q) -∗ WP c (.op w kk) Q) := by
  subst hsm hu
  have hlv' : ∀ k' ∈ l.map Prod.snd, lvS (csem k) < lvC k' := fun k' h => by
    rw [← lv_cell c k ()] at hlv
    exact hlv k' h
  iintro ⟨#HR, Hy, Ho⟩ Hk
  ihave #Hi := (recs_inv m κ c k) $$ HR
  ihave #Hl := (recs_lev m κ) $$ HR
  unfold ow rdy
  icases Ho with ⟨%W, HO⟩
  icases Hy with ⟨Hat, Hc⟩
  iapply (Rounds.wp_wait_rest_token 𝒱₀ ER (sched m) (c : Thread nD τ) none (κ := κ (c, k)) hw (Set.mem_univ _) () (O := oweL l) (W := W)
      (R := 0) (m := 0) (T := ∅) (by rw [show ((c : Thread nD τ), csem k) = cell c k from rfl, expect_one m c hk]; exact Nat.zero_add _)) $$ [Hc HO Hat]
  · isplitr; · iexact Hi
    isplitl [Hc]; · iexact Hc
    isplitl [HO]; · iexact HO
    isplitr; · iapply (mayWait_list c (csem k) l hlv'); iexact Hl
    iexact Hat
  iintro ⟨HO, Hat, -, Hpay⟩
  ihave Hp := (Entails.of_eq (rest_one m c hk)) $$ Hpay
  imod (close_cell m κ c k) $$ [Hat] with Hz
  · isplitr; · iexact HR
    iexact Hat
  iapply Hk
  isplitl [Hz]; · iexact Hz
  isplitl [Hp]; · iexact Hp
  iexists _; iexact HO

/-- The wait for both neighbours at the barrier. -/
theorem st_take_bar (c : Dev nD) (l : List (Dev nD × Cl)) (hlv : ∀ k' ∈ l.map Prod.snd, 1 < lvC k')
    {sem : Sem sig} (hsem : SemLoc.reg sem = csem bar) {u : ℕ} (hu : u = 2) :
    iprop(recs m κ ∗ atPos ER (cell c bar) 0 ∅ 0 ∗ cred (tallyAt (cell c bar) () 2) ∗ ow c l)
      ⊢ iprop(((zero c bar ∗ (∃ f, cP (F := F) (lf c) fullShare 1 0 1024 f) ∗ (∃ f, cP (F := F) (rt c) fullShare 0 0 1024 f) ∗ ow c l) -∗ WP c (kk ⟨⟩) Q)
        -∗ WP c (.op (.semWait sem u) kk) Q) := by
  subst hu
  have hlv' : ∀ k' ∈ l.map Prod.snd, lvS (csem bar) < lvC k' := fun k' h => by
    rw [show lvS (csem bar) = lvC bar from lv_cell c bar ()]
    exact hlv k' h
  have hw : ∀ K : PUnit → sProp 𝕄, wpE (defs₀ (F := F)) 𝒱₀ (c : Thread nD τ) none Set.univ (.semWait sem 2) K = waitSpec (c : Thread nD τ) Set.univ (csem bar) 2 K :=
    fun K => by rw [← hsem]; exact wpE_semWait_eq 𝒱₀ (c : Thread nD τ) none Set.univ K
  iintro ⟨#HR, Hat, Hc, Ho⟩ Hk
  ihave #Hi := (recs_inv m κ c bar) $$ HR
  ihave #Hl := (recs_lev m κ) $$ HR
  unfold ow
  icases Ho with ⟨%W, HO⟩
  iapply (Rounds.wp_wait_rest_token 𝒱₀ ER (sched m) (c : Thread nD τ) none (κ := κ (c, bar)) hw (Set.mem_univ _) () (O := oweL l) (W := W)
      (R := 0) (m := 0) (T := ∅) (by rw [show ((c : Thread nD τ), csem bar) = cell c bar from rfl, expect_bar m c])) $$ [Hc HO Hat]
  · isplitr; · iexact Hi
    isplitl [Hc]; · iexact Hc
    isplitl [HO]; · iexact HO
    isplitr; · iapply (mayWait_list c (csem bar) l hlv'); iexact Hl
    iexact Hat
  iintro ⟨HO, Hat, -, Hpay⟩
  ihave Hp := (Entails.of_eq (rest_bar m c)) $$ Hpay
  icases Hp with ⟨Hp1, Hp2⟩
  imod (close_cell m κ c bar) $$ [Hat] with Hz
  · isplitr; · iexact HR
    iexact Hat
  iapply Hk
  isplitl [Hz]; · iexact Hz
  isplitl [Hp1]; · iexact Hp1
  isplitl [Hp2]; · iexact Hp2
  iexists _; iexact HO

/-- A remote copy pays the receive cell `kr` of `e`, the source lent to the send cell `ks`. -/
theorem st_send (c e n : Dev nD) (ks kr : Cl) (l l' : List (Dev nD × Cl)) (hl : l = (e, kr) :: l') (hamt : amt ks = amt kr) (hn : n = e)
    {sp sp' : Space} {s : Shape} {ty : EltTy} {src : Memref sig .tc sp s ty} {dst : Memref sig (Dev.tc n : Thread nD τ).2.kind sp' s ty}
    {hsc : dst.view.ref.isScScratch = false} {sS sem : SemLoc sig} (hS : sS = csem ks) (hD : sem = csem kr)
    {hsrc : src.view.WordExact} {hdst : dst.view.WordExact} {hsem : DmaTarget.Typed sp sem (.remote (Dev.tc n : Thread nD τ) dst sS hsc)}
    {q : PosShare TreeShare} {fs : Buf (Elt F) (src.view.loc (c : Thread nD τ))} {g : Buf (Elt F) (dst.view.loc (n : Thread nD τ))}
    (hN : dst.view.amount sem = amt kr)
    (hpS : pay m c false ks = (src.view.loc (c : Thread nD τ) ↦[src.view.set]{q} fs))
    (hpR : pay m e false kr = (dst.view.loc (n : Thread nD τ) ↦[dst.view.set]{fullShare} g))
    (hread : dst.view.read (Elt F) g = src.view.read (Elt F) fs) :
    iprop(recs m κ ∗ pay m c false ks ∗ (∃ fd, dst.view.loc (n : Thread nD τ) ↦[dst.view.set]{fullShare} fd) ∗ tk c ks ∗ tok e kr false ∗ ow c l)
      ⊢ iprop(((rdy c ks ∗ ow c l') -∗ WP c (kk ⟨⟩) Q)
        -∗ WP c (.op (.enqueueDma src (.remote (Dev.tc n : Thread nD τ) dst sS hsc) sem hsrc hdst hsem) kk) Q) := by
  subst hn hl hS hD
  iintro ⟨#HR, Hs, ⟨%fd, Hd⟩, Htk, Ht, Ho⟩ Hk
  ihave #Hi := (recs_inv m κ c ks) $$ HR
  ihave #Hr := (recs_reached m κ c ks) $$ HR
  ihave #Hi' := (recs_inv m κ n kr) $$ HR
  ihave #Hr' := (recs_reached m κ n kr) $$ HR
  unfold ow tk
  icases Ho with ⟨%W, HO⟩
  icases Htk with ⟨Hat, Htk⟩
  ihave Hs := (Entails.of_eq hpS) $$ Hs
  iapply (Rounds.wp_send_pointsTo 𝒱₀ ER (sched m) (c : Thread nD τ) none (κ₁ := κ (c, ks)) (κ₂ := κ (n, kr))
    (r₁ := 0) (r₂ := 0) (d₁ := false) (d₂ := false) (fd := fd) (q := q) (fs := fs)
    (mem_duties m c ks) (mem_duties m n kr) () () (amt kr) hN ((amount_cell m c ks 0 false).trans hamt) (amount_cell m n kr 0 false) (oweL l') rfl (W := W)
    (Entails.of_eq ((payload_cell m c ks 0 false).trans hpS).symm)
    (Entails.of_eq ((pointsTo_congr (write_at dst.view fd hread)).trans ((payload_cell m n kr 0 false).trans hpR).symm)))
    $$ [Hs Hd HO Htk Ht]
  · isplitr; · iexact Hi
    isplitr; · iexact Hi'
    isplitl [Hs]; · iexact Hs
    isplitl [Hd]; · iexact Hd
    isplitl [HO]; · iexact HO
    isplitl [Htk]; · iexact Htk
    isplitr; · iexact Hr
    isplitl [Ht]; · iexact Ht
    iexact Hr'
  iintro ⟨Hc, HO⟩
  iapply Hk
  isplitl [Hat Hc]
  · unfold rdy
    isplitl [Hat]; · iexact Hat
    rw [hamt]; iexact Hc
  iexists W; iexact HO

end Cert.Ag

end
-- ==== Proof.Local.lean ====
/-
The kernel's operations on its own buffers, each group of them as one rule: fetching and rounding the weights,
loading the rows of a block, multiplying them into the stage, and copying the stage to the result.
-/
module

public import proofs.«01_k».proof.Proof.Steps

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- The semaphore of the copies of the weights. -/
abbrev smW : DmaSem sig := (17 : Fin 20)
/-- The semaphores of the copies of the two slots of the stage. -/
abbrev smG : Fin 2 → DmaSem sig := fun s => (⟨18 + s.val, by omega⟩ : Fin 20)

/-- A counter of the device's own copies at zero. -/
abbrev lz (c : Dev nD) (sm : DmaSem sig) : sProp 𝕄 := semVal ((c : Thread nD τ), SemLoc.dma sm) 0

/-- The staged block of `x`, -/
abbrev xM : Memref sig .tc .vmem S1024x4096 .bf16 := Memref.whole cc0_stg0_0
/-- the receive buffer, -/
abbrev cM : Memref sig .tc .vmem S2x1024x4096 .bf16 := Memref.whole cc0_scratch0
/-- the rounded weights, -/
abbrev bM : Memref sig .tc .vmem S4096x2048 .bf16 := Memref.whole cc0_scratch1
/-- the stage of the weights, -/
abbrev sM : Memref sig .tc .vmem S1024x2048 .f32 := Memref.whole cc0_scratch2
/-- the stage of the result. -/
abbrev gM : Memref sig .tc .vmem S2x512x2048 .bf16 := Memref.whole cc0_scratch3

/-- The weights of the device. -/
abbrev wArg (c : Dev nD) : sProp 𝕄 := ((c : Thread nD τ).loc main_arg1) ↦{fullShare} (m ((c : Thread nD τ).loc main_arg1))
/-- The staging buffer of the weights. -/
abbrev sP (c : Dev nD) (f : Buf (Elt F) ((c : Thread nD τ).loc cc0_scratch2)) : sProp 𝕄 := ((c : Thread nD τ).loc cc0_scratch2) ↦{fullShare} f
/-- Rows of the rounded weights. -/
abbrev bP (c : Dev nD) (r n : ℕ) (f : Buf (Elt F) ((c : Thread nD τ).loc cc0_scratch1)) : sProp 𝕄 :=
  ((c : Thread nD τ).loc cc0_scratch1) ↦[(band r n : Finset (⟨2, ![4096, 2048]⟩ : Shape).Idx)]{fullShare} f
/-- The rounded weights, whole. -/
abbrev bW (c : Dev nD) : sProp 𝕄 := ((c : Thread nD τ).loc cc0_scratch1) ↦{fullShare} (wb m c)
/-- Rows of a slot of the stage, holding anything. -/
abbrev gE (c : Dev nD) (s r n : ℕ) : sProp 𝕄 := iprop(∃ f, gP (F := F) c s r n f)
/-- A slot of the stage holding the vector `v`. -/
def gH (c : Dev nD) (s : ℕ) (h : ∀ a, (![s, 0, 0] : Fin 3 → ℕ) a + S1x512x2048.size a ≤ S2x512x2048.size a) (v : FVec F S512x2048 .bf16) : sProp 𝕄 := iprop(∃ g, ⌜(gW s h).view.read (Elt F) g = v⌝ ∗ gP c s 0 512 g)
/-- The first half of a slot of the stage holding the vector `v`. -/
def gQv (c : Dev nD) (s : ℕ) (h : ∀ a, (![s, 0, 0] : Fin 3 → ℕ) a + S1x256x2048.size a ≤ S2x512x2048.size a) (v : FVec F S256x2048 .bf16) : sProp 𝕄 := iprop(∃ g, ⌜(gQ s h).view.read (Elt F) g = v⌝ ∗ gP c s 0 256 g)

variable {α : Type} {Q : α → sProp (MT nD τ sig Unit (Elt F) ℕ UU ℕ)} {kk : PUnit → Prog (TpuEff nD τ sig (Elt F) Λ₀ .tc) α}

/-! ## The weights -/

/-- The zero offset, written out. -/
theorem hz2 : (![0, 0] : Fin 2 → ℕ) = fun _ => 0 := funext fun a => by fin_cases a <;> rfl

/-- A load of the whole staging buffer of the weights reads what it holds. -/
theorem read_sM (h) (f : (cc0_scratch2 : Ref sig .tc).ty.Contents (Elt F)) :
    sM.view.readAt (Elt F) (Rect.unit (s := S1024x2048) ![0, 0] S1024x2048.size h).toLoadRect f = f :=
  Memref.readAt_unit_zero (Elt F) cc0_scratch2 hz2 h f
/-- A load of all the rounded weights reads what they are. -/
theorem read_bM (h) (f : (cc0_scratch1 : Ref sig .tc).ty.Contents (Elt F)) :
    bM.view.readAt (Elt F) (Rect.unit (s := S4096x2048) ![0, 0] S4096x2048.size h).toLoadRect f = f :=
  Memref.readAt_unit_zero (Elt F) cc0_scratch1 hz2 h f

/-- The semaphores of the copies to the result are of the lowest level. -/
theorem lvS_smG (s : Fin 2) : lvS (SemLoc.dma (smG s)) = 0 := by revert s; decide

/-- A local semaphore is below everything owed. -/
theorem wait_local (c : Dev nD) {sm : DmaSem sig} (hsm : lvS (SemLoc.dma sm) = 0) (l : List (Dev nD × Cl)) (hl : ∀ k ∈ l.map Prod.snd, 0 < lvC k) :
    recs (F := F) m κ ⊢ MayWait (c : Thread nD τ) (SemLoc.dma sm) () (oweL l) :=
  (recs_lev m κ).trans (mayWait_list c _ l fun k hk => by rw [hsm]; exact hl k hk)

/-- A slab of the weights is fetched, and waited for. -/
theorem st_fetch (c : Dev nD) (l : List (Dev nD × Cl)) (hl : ∀ k ∈ l.map Prod.snd, 0 < lvC k) (r : ℕ) (h h') {sm sm' : DmaSem sig} (hsm : sm = smW) (hsm' : sm' = smW)
    {h1} {h2} {h3} {h4} {h5} :
    iprop(recs m κ ∗ wArg m c ∗ (∃ f, sP (F := F) c f) ∗ lz c smW ∗ ow c l)
      ⊢ iprop(((wArg m c ∗ sP c ((wW r h).view.read (Elt F) (m ((c : Thread nD τ).loc main_arg1))) ∗ lz c smW ∗ ow c l) -∗ WP c (kk ⟨⟩) Q)
        -∗ WP c (.op (.enqueueDma (wW r h) (.here sM) (.dma sm) h1 h2 h3)
            fun _ => .op (.waitDma2 sm' (wW r h') sM h4 h5) kk) Q) := by
  subst hsm hsm'
  have hsp : wArg m c ⊣⊢ iprop((((c : Thread nD τ).loc main_arg1) ↦[(wW r h).view.set]{fullShare} (m ((c : Thread nD τ).loc main_arg1)))
      ∗ ((c : Thread nD τ).loc main_arg1) ↦[Finset.univ \ (wW r h).view.set]{fullShare} (m ((c : Thread nD τ).loc main_arg1))) :=
    pointsTo_split_subset (Finset.subset_univ _)
  iintro ⟨#HR, Hw, ⟨%fd, Hs⟩, Hz, Ho⟩ Hk
  ihave Hw := hsp.1 $$ Hw
  icases Hw with ⟨Hw, Hw'⟩
  iapply (Transfers.wp_dmaLocal EC 𝒱₀ (c : Thread nD τ) none (Sd := Finset.univ) (fd := fd) () (sM.view.amount (SemLoc.dma smW)) rfl
    (View.dmaCredit_pos _ (by decide)) (Finset.subset_univ _)) $$ [Hw Hs Hz]
  · isplitl [Hw]; · iexact Hw
    isplitl [Hs]; · iexact Hs
    iexact Hz
  iintro HF
  unfold ow
  icases Ho with ⟨%W, HO⟩
  iapply (Transfers.wp_waitLocalO EC 𝒱₀ (c : Thread nD τ) none () rfl (O := oweL l) (W := W)) $$ [HF HO]
  · isplitl [HF]; · iexact HF
    isplitl [HO]; · iexact HO
    iapply (wait_local m κ c (by decide) l hl); iexact HR
  iintro ⟨⟨Hs, Hw⟩, Hz, HO⟩
  iapply Hk
  isplitl [Hw Hw']
  · iapply hsp.2
    isplitl [Hw]; · iexact Hw
    iexact Hw'
  isplitl [Hs]
  · iapply (Entails.of_eq (pointsTo_congr (fun i _ => write_at sM.view fd
      (g := (wW r h).view.read (Elt F) (m ((c : Thread nD τ).loc main_arg1))) rfl i (by rw [View.set_whole]; exact Finset.mem_univ _))))
    iexact Hs
  isplitl [Hz]; · iexact Hz
  iexists _; iexact HO

/-- The rows a store of rounded weights writes. -/
theorem access_b (r : ℕ) (h) : (bM.access (Rect.unit (s := S4096x2048) ![r, 0] S1024x2048.size h) : View sig .tc _ _ _).set = band r 1024 :=
  (View.set_slice_whole cc0_scratch1 _).trans (rect_band rfl h)

/-- The rounded slab stored gives the rounded weights on its rows. -/
theorem stored_wb (c : Dev nD) (r : ℕ) (h h') (f : Buf (Elt F) ((c : Thread nD τ).loc cc0_scratch1)) :
    bP c r 1024 ((bM.access (Rect.unit (s := S4096x2048) ![r, 0] S1024x2048.size h') : View sig .tc _ _ _).write (Elt F) f
        (k0_pay1 ((wW r h).view.read (Elt F) (m ((c : Thread nD τ).loc main_arg1)))) Finset.univ)
      ⊢ bP c r 1024 (wb m c) :=
  Entails.of_eq (pointsTo_congr fun i hi => write_at (bM.access (Rect.unit (s := S4096x2048) ![r, 0] S1024x2048.size h') : View sig .tc _ _ _) f
    (read_wb m c r h' h) i (by rw [access_b]; exact hi))

/-- The slab fetched is rounded into the rounded weights. -/
theorem st_cast (c : Dev nD) (r : ℕ) (h h0 h' h'') {p : FVec F S1024x2048 .f32 → FVec F S1024x2048 .bf16} (hp : ∀ v, p v = k0_pay1 v)
    {h1} {h2} {h3} {h4} :
    iprop(sP c ((wW r h).view.read (Elt F) (m ((c : Thread nD τ).loc main_arg1))) ∗ (∃ f, bP (F := F) c r 1024 f))
      ⊢ iprop((((∃ f, sP (F := F) c f) ∗ bP c r 1024 (wb m c)) -∗ WP c (kk ⟨⟩) Q)
        -∗ WP c (.op (.load sM (Rect.unit (s := S1024x2048) ![0, 0] S1024x2048.size h0).toLoadRect h1) fun (v : Vec F S1024x2048 .f32) =>
            .op (.load bM (Rect.unit (s := S4096x2048) ![r, 0] S1024x2048.size h').toLoadRect h2) fun _ =>
            .op (.store bM (Rect.unit (s := S4096x2048) ![r, 0] S1024x2048.size h'') (p v) Finset.univ h3 h4) kk) Q) := by
  iintro ⟨Hs, ⟨%f, Hb⟩⟩ Hk
  iapply (wp_load 𝒱₀ (c : Thread nD τ) none Set.univ (m := sM) (S := Finset.univ) (Finset.subset_univ _)) $$ Hs
  iintro Hs
  rw [read_sM]
  iapply (wp_load_rect 𝒱₀ (c : Thread nD τ) none Set.univ (m := bM) (r := Rect.unit (s := S4096x2048) ![r, 0] S1024x2048.size h') (S := (band r 1024 : Finset (⟨2, ![4096, 2048]⟩ : Shape).Idx)) (access_b r h').subset) $$ Hb
  iintro Hb
  iapply (wp_store 𝒱₀ (c : Thread nD τ) none Set.univ (m := bM) (r := Rect.unit (s := S4096x2048) ![r, 0] S1024x2048.size h') (S := (band r 1024 : Finset (⟨2, ![4096, 2048]⟩ : Shape).Idx)) (access_b r h').subset) $$ Hb
  iintro Hb
  iapply Hk
  isplitl [Hs]; · iexists _; iexact Hs
  rw [hp]
  iapply (stored_wb m c r h h' f)
  iexact Hb

/-! ## Loads -/

/-- The rows of the staged block loaded. -/
theorem ld_x (c : Dev nD) (r : ℕ) (h) {h1} {k : FVec F S512x4096 .bf16 → Prog (TpuEff nD τ sig (Elt F) Λ₀ .tc) α} :
    xP c qK r 512 (xs m c)
      ⊢ iprop((xP c qK r 512 (xs m c) -∗ WP c (k (xRow m 512 c r)) Q)
        -∗ WP c (.op (.load xM (Rect.unit (s := S1024x4096) ![r, 0] S512x4096.size h).toLoadRect h1) fun (v : Vec F S512x4096 .bf16) => k v) Q) := by
  iintro Hx Hk
  iapply (wp_load_rect 𝒱₀ (c : Thread nD τ) none Set.univ (m := xM) (r := Rect.unit (s := S1024x4096) ![r, 0] S512x4096.size h) (S := (band r 512 : Finset (⟨2, ![1024, 4096]⟩ : Shape).Idx)) (xW_set r h).subset) $$ Hx
  iintro Hx
  rw [show (xM.access (Rect.unit (s := S1024x4096) ![r, 0] S512x4096.size h) : View sig .tc _ _ _).read (Elt F) (xs m c) = xRow m 512 c r from read_xW m c r h]
  iapply Hk
  iexact Hx

/-- The rows of the communication buffer loaded, 512 of them. -/
theorem ld_cH (c : Dev nD) (q : PosShare TreeShare) (s r : ℕ) (h) (f : Buf (Elt F) ((c : Thread nD τ).loc cc0_scratch0)) {w : FVec F S512x4096 .bf16}
    (hw : (cW s r h).view.read (Elt F) f = w) {h1} {k : FVec F S1x512x4096 .bf16 → Prog (TpuEff nD τ sig (Elt F) Λ₀ .tc) α} :
    cP c q s r 512 f
      ⊢ iprop((∀ v : FVec F S1x512x4096 .bf16, ⌜shapeCast S512x4096 v shapeCasts_S1x512x4096_S512x4096 = w⌝ -∗ cP c q s r 512 f -∗ WP c (k v) Q)
        -∗ WP c (.op (.load cM (Rect.unit (s := S2x1024x4096) ![s, r, 0] S1x512x4096.size h).toLoadRect h1) fun (v : Vec F S1x512x4096 .bf16) => k v) Q) := by
  iintro Hx Hk
  iapply (wp_load_rect 𝒱₀ (c : Thread nD τ) none Set.univ (m := cM) (r := Rect.unit (s := S2x1024x4096) ![s, r, 0] S1x512x4096.size h) (S := (slab s r 512 : Finset (⟨3, ![2, 1024, 4096]⟩ : Shape).Idx))
    ((View.set_slice_whole cc0_scratch0 _).trans (rect_slab h)).subset) $$ Hx
  iintro Hx
  iapply Hk $$ [] Hx
  ipureintro
  exact hw

/-- The rows of the communication buffer loaded, 256 of them. -/
theorem ld_cQ (c : Dev nD) (q : PosShare TreeShare) (s r : ℕ) (h) (f : Buf (Elt F) ((c : Thread nD τ).loc cc0_scratch0)) {w : FVec F S256x4096 .bf16}
    (hw : (cQ s r h).view.read (Elt F) f = w) {h1} {k : FVec F S1x256x4096 .bf16 → Prog (TpuEff nD τ sig (Elt F) Λ₀ .tc) α} :
    cP c q s r 256 f
      ⊢ iprop((∀ v : FVec F S1x256x4096 .bf16, ⌜shapeCast S256x4096 v shapeCasts_S1x256x4096_S256x4096 = w⌝ -∗ cP c q s r 256 f -∗ WP c (k v) Q)
        -∗ WP c (.op (.load cM (Rect.unit (s := S2x1024x4096) ![s, r, 0] S1x256x4096.size h).toLoadRect h1) fun (v : Vec F S1x256x4096 .bf16) => k v) Q) := by
  iintro Hx Hk
  iapply (wp_load_rect 𝒱₀ (c : Thread nD τ) none Set.univ (m := cM) (r := Rect.unit (s := S2x1024x4096) ![s, r, 0] S1x256x4096.size h) (S := (slab s r 256 : Finset (⟨3, ![2, 1024, 4096]⟩ : Shape).Idx))
    ((View.set_slice_whole cc0_scratch0 _).trans (rect_slab h)).subset) $$ Hx
  iintro Hx
  iapply Hk $$ [] Hx
  ipureintro
  exact hw

/-- All the rounded weights loaded. -/
theorem ld_b (c : Dev nD) (h) {h1} {k : FVec F S4096x2048 .bf16 → Prog (TpuEff nD τ sig (Elt F) Λ₀ .tc) α} :
    bW m c
      ⊢ iprop((bW m c -∗ WP c (k (wb m c)) Q)
        -∗ WP c (.op (.load bM (Rect.unit (s := S4096x2048) ![0, 0] S4096x2048.size h).toLoadRect h1) fun (v : Vec F S4096x2048 .bf16) => k v) Q) := by
  iintro Hx Hk
  iapply (wp_load 𝒱₀ (c : Thread nD τ) none Set.univ (m := bM) (S := Finset.univ) (Finset.subset_univ _)) $$ Hx
  iintro Hx
  rw [read_bM]
  iapply Hk
  iexact Hx

/-! ## The stage -/

/-- The rows a store of a half product writes. -/
theorem access_gH (s : ℕ) (h) : (gM.access (Rect.unit (s := S2x512x2048) ![s, 0, 0] S1x512x2048.size h) : View sig .tc _ _ _).set = slab s 0 512 :=
  (View.set_slice_whole cc0_scratch3 _).trans (rect_slab h)
/-- The rows a store of a quarter product writes. -/
theorem access_gQ (s : ℕ) (h) : (gM.access (Rect.unit (s := S2x512x2048) ![s, 0, 0] S1x256x2048.size h) : View sig .tc _ _ _).set = slab s 0 256 :=
  (View.set_slice_whole cc0_scratch3 _).trans (rect_slab h)

/-- A load of a slot whose value is not used. -/
theorem ld_gH (c : Dev nD) (s : ℕ) (h) {h1} {k : FVec F S1x512x2048 .bf16 → Prog (TpuEff nD τ sig (Elt F) Λ₀ .tc) α} :
    gE (F := F) c s 0 512
      ⊢ iprop((∀ v, gE (F := F) c s 0 512 -∗ WP c (k v) Q)
        -∗ WP c (.op (.load gM (Rect.unit (s := S2x512x2048) ![s, 0, 0] S1x512x2048.size h).toLoadRect h1) fun (v : Vec F S1x512x2048 .bf16) => k v) Q) := by
  iintro ⟨%f, Hx⟩ Hk
  iapply (wp_load_rect 𝒱₀ (c : Thread nD τ) none Set.univ (m := gM) (r := Rect.unit (s := S2x512x2048) ![s, 0, 0] S1x512x2048.size h) (S := (slab s 0 512 : Finset (⟨3, ![2, 512, 2048]⟩ : Shape).Idx)) (access_gH s h).subset) $$ Hx
  iintro Hx
  iapply Hk
  iexists f; iexact Hx
/-- The load of 256 rows of the stage before their store; its value is not used. -/
theorem ld_gQ (c : Dev nD) (s : ℕ) (h) {h1} {k : FVec F S1x256x2048 .bf16 → Prog (TpuEff nD τ sig (Elt F) Λ₀ .tc) α} :
    gE (F := F) c s 0 256
      ⊢ iprop((∀ v, gE (F := F) c s 0 256 -∗ WP c (k v) Q)
        -∗ WP c (.op (.load gM (Rect.unit (s := S2x512x2048) ![s, 0, 0] S1x256x2048.size h).toLoadRect h1) fun (v : Vec F S1x256x2048 .bf16) => k v) Q) := by
  iintro ⟨%f, Hx⟩ Hk
  iapply (wp_load_rect 𝒱₀ (c : Thread nD τ) none Set.univ (m := gM) (r := Rect.unit (s := S2x512x2048) ![s, 0, 0] S1x256x2048.size h) (S := (slab s 0 256 : Finset (⟨3, ![2, 512, 2048]⟩ : Shape).Idx)) (access_gQ s h).subset) $$ Hx
  iintro Hx
  iapply Hk
  iexists f; iexact Hx

/-- Storing a product over a slot. -/
theorem st_gH (c : Dev nD) (s : ℕ) (h) (v : FVec F S512x2048 .bf16) {p : FVec F S1x512x2048 .bf16} (hp : p = shapeCast S1x512x2048 v shapeCasts_S512x2048_S1x512x2048)
    {h1} {h2} :
    gE (F := F) c s 0 512
      ⊢ iprop((gH c s h v -∗ WP c (kk ⟨⟩) Q)
        -∗ WP c (.op (.store gM (Rect.unit (s := S2x512x2048) ![s, 0, 0] S1x512x2048.size h) p Finset.univ h1 h2) kk) Q) := by
  subst hp
  iintro ⟨%f, Hx⟩ Hk
  iapply (wp_store 𝒱₀ (c : Thread nD τ) none Set.univ (m := gM) (r := Rect.unit (s := S2x512x2048) ![s, 0, 0] S1x512x2048.size h) (S := (slab s 0 512 : Finset (⟨3, ![2, 512, 2048]⟩ : Shape).Idx)) (access_gH s h).subset) $$ Hx
  iintro Hx
  iapply Hk
  unfold gH
  iexists _
  isplitr; · ipureintro; exact read_gW s h f v
  iexact Hx
/-- The store of a product of 256 rows. -/
theorem st_gQ (c : Dev nD) (s : ℕ) (h) (v : FVec F S256x2048 .bf16) {p : FVec F S1x256x2048 .bf16} (hp : p = shapeCast S1x256x2048 v shapeCasts_S256x2048_S1x256x2048)
    {h1} {h2} :
    gE (F := F) c s 0 256
      ⊢ iprop((gQv c s h v -∗ WP c (kk ⟨⟩) Q)
        -∗ WP c (.op (.store gM (Rect.unit (s := S2x512x2048) ![s, 0, 0] S1x256x2048.size h) p Finset.univ h1 h2) kk) Q) := by
  subst hp
  iintro ⟨%f, Hx⟩ Hk
  iapply (wp_store 𝒱₀ (c : Thread nD τ) none Set.univ (m := gM) (r := Rect.unit (s := S2x512x2048) ![s, 0, 0] S1x256x2048.size h) (S := (slab s 0 256 : Finset (⟨3, ![2, 512, 2048]⟩ : Shape).Idx)) (access_gQ s h).subset) $$ Hx
  iintro Hx
  iapply Hk
  unfold gQv
  iexists _
  isplitr; · ipureintro; exact read_gQ s h f v
  iexact Hx

/-! ## The copies to the result -/

/-- The credit of a copy of 512 rows of the result, and of 256. -/
def MH : ℕ := (gW 0 inb_S2x512x2048_S1x512x2048_0_0_0).view.dmaCredit
/-- The credit of a copy of 256 rows of the result. -/
def MQ : ℕ := (gQ 0 inb_S2x512x2048_S1x256x2048_0_0_0).view.dmaCredit
/-- It is positive; -/
theorem MH_pos : 0 < MH := View.dmaCredit_pos _ (by decide)
/-- so is this one. -/
theorem MQ_pos : 0 < MQ := View.dmaCredit_pos _ (by decide)

/-- A copy of slot `s` to the rows from `r` of the result on its way: at its wait the rows are final and the slot free. -/
def flH (c : Dev nD) (s : Fin 2) (r : ℕ) : sProp 𝕄 :=
  Transfers.Flight EC (c : Thread nD τ) (SemLoc.dma (smG s)) () MH iprop(oP c r 512 (outF m c) ∗ gE (F := F) c s.val 0 512)
/-- The same for 256 rows. -/
def flQ (c : Dev nD) (s : Fin 2) (r : ℕ) : sProp 𝕄 :=
  Transfers.Flight EC (c : Thread nD τ) (SemLoc.dma (smG s)) () MQ iprop(oP c r 256 (outF m c) ∗ gE (F := F) c s.val 0 256)

/-- A slot of the stage as the source of a copy of 512 rows; -/
theorem gP_eqH (c : Dev nD) (s : ℕ) (h) (g : Buf (Elt F) ((c : Thread nD τ).loc cc0_scratch3)) :
    gP c s 0 512 g = ((gW s h).view.loc (c : Thread nD τ) ↦[(gW s h).view.set]{fullShare} g) :=
  congrArg (fun S : Finset (⟨3, ![2, 512, 2048]⟩ : Shape).Idx => (((c : Thread nD τ).loc cc0_scratch3) ↦[S]{fullShare} g : sProp 𝕄)) (gW_set s h).symm
/-- of 256 rows. -/
theorem gP_eqQ (c : Dev nD) (s : ℕ) (h) (g : Buf (Elt F) ((c : Thread nD τ).loc cc0_scratch3)) :
    gP c s 0 256 g = ((gQ s h).view.loc (c : Thread nD τ) ↦[(gQ s h).view.set]{fullShare} g) :=
  congrArg (fun S : Finset (⟨3, ![2, 512, 2048]⟩ : Shape).Idx => (((c : Thread nD τ).loc cc0_scratch3) ↦[S]{fullShare} g : sProp 𝕄)) (gQ_set s h).symm
/-- Rows of the result as the target of a copy of 512 rows; -/
theorem oP_eqH (c : Dev nD) {r : ℕ} {off : Fin 2 → ℕ} (ho : off = ![r, 0]) (h) (g : Buf (Elt F) ((c : Thread nD τ).loc main_v1)) :
    oP c r 512 g = ((oW off h).view.loc (c : Thread nD τ) ↦[(oW off h).view.set]{fullShare} g) :=
  congrArg (fun S : Finset (⟨2, ![4096, 2048]⟩ : Shape).Idx => (((c : Thread nD τ).loc main_v1) ↦[S]{fullShare} g : sProp 𝕄)) (oW_set ho h).symm
/-- of 256 rows. -/
theorem oP_eqQ (c : Dev nD) {r : ℕ} {off : Fin 2 → ℕ} (ho : off = ![r, 0]) (h) (g : Buf (Elt F) ((c : Thread nD τ).loc main_v1)) :
    oP c r 256 g = ((oQ off h).view.loc (c : Thread nD τ) ↦[(oQ off h).view.set]{fullShare} g) :=
  congrArg (fun S : Finset (⟨2, ![4096, 2048]⟩ : Shape).Idx => (((c : Thread nD τ).loc main_v1) ↦[S]{fullShare} g : sProp 𝕄)) (oQ_set ho h).symm

/-- A slot is sent to its rows of the result. -/
theorem st_outH (c : Dev nD) (s : Fin 2) (r : ℕ) (h) {off : Fin 2 → ℕ} (ho : off = ![r, 0]) (h') {v : FVec F S512x2048 .bf16}
    (hv : (oW off h').view.read (Elt F) (outF m c) = v) {sm : DmaSem sig} (hsm : sm = smG s) {h1} {h2} {h3} :
    iprop(gH c s.val h v ∗ (∃ f, oP (F := F) c r 512 f) ∗ lz c (smG s))
      ⊢ iprop((flH m c s r -∗ WP c (kk ⟨⟩) Q)
        -∗ WP c (.op (.enqueueDma (gW s.val h) (.here (oW off h')) (.dma sm) h1 h2 h3) kk) Q) := by
  subst hsm
  unfold gH flH
  iintro ⟨⟨%g, %hg, Hg⟩, ⟨%f, Hf⟩, Hz⟩ Hk
  ihave Hg := (Entails.of_eq (gP_eqH c s.val h g)) $$ Hg
  ihave Hf := (Entails.of_eq (oP_eqH c ho h' f)) $$ Hf
  iapply (Transfers.wp_dmaLocal EC 𝒱₀ (c : Thread nD τ) none (src := gW s.val h) (dst := oW off h') (q := fullShare) (fs := g) (Sd := (oW off h').view.set) (fd := f) () MH rfl
    MH_pos (Finset.Subset.refl _)) $$ [Hg Hf Hz]
  · isplitl [Hg]; · iexact Hg
    isplitl [Hf]; · iexact Hf
    iexact Hz
  iintro HF
  iapply Hk
  iapply (Transfers.Flight_mono EC (c : Thread nD τ) (BIClass.sep_mono
    (Entails.of_eq ((pointsTo_congr (fun i hi => write_at (oW off h').view f (hv.trans hg.symm) i hi)).trans (oP_eqH c ho h' _).symm))
    ((Entails.of_eq (gP_eqH c s.val h g).symm).trans (exists_intro g))))
  iexact HF

/-- The first half of a slot is sent to its rows of the result. -/
theorem st_outQ (c : Dev nD) (s : Fin 2) (r : ℕ) (h) {off : Fin 2 → ℕ} (ho : off = ![r, 0]) (h') {v : FVec F S256x2048 .bf16}
    (hv : (oQ off h').view.read (Elt F) (outF m c) = v) {sm : DmaSem sig} (hsm : sm = smG s) {h1} {h2} {h3} :
    iprop(gQv c s.val h v ∗ (∃ f, oP (F := F) c r 256 f) ∗ lz c (smG s))
      ⊢ iprop((flQ m c s r -∗ WP c (kk ⟨⟩) Q)
        -∗ WP c (.op (.enqueueDma (gQ s.val h) (.here (oQ off h')) (.dma sm) h1 h2 h3) kk) Q) := by
  subst hsm
  unfold gQv flQ
  iintro ⟨⟨%g, %hg, Hg⟩, ⟨%f, Hf⟩, Hz⟩ Hk
  ihave Hg := (Entails.of_eq (gP_eqQ c s.val h g)) $$ Hg
  ihave Hf := (Entails.of_eq (oP_eqQ c ho h' f)) $$ Hf
  iapply (Transfers.wp_dmaLocal EC 𝒱₀ (c : Thread nD τ) none (src := gQ s.val h) (dst := oQ off h') (q := fullShare) (fs := g) (Sd := (oQ off h').view.set) (fd := f) () MQ rfl
    MQ_pos (Finset.Subset.refl _)) $$ [Hg Hf Hz]
  · isplitl [Hg]; · iexact Hg
    isplitl [Hf]; · iexact Hf
    iexact Hz
  iintro HF
  iapply Hk
  iapply (Transfers.Flight_mono EC (c : Thread nD τ) (BIClass.sep_mono
    (Entails.of_eq ((pointsTo_congr (fun i hi => write_at (oQ off h').view f (hv.trans hg.symm) i hi)).trans (oP_eqQ c ho h' _).symm))
    ((Entails.of_eq (gP_eqQ c s.val h g).symm).trans (exists_intro g))))
  iexact HF

/-- The wait for a copy to the result: its rows are final and its slot free. -/
theorem st_landH (c : Dev nD) (s : Fin 2) (r : ℕ) (l : List (Dev nD × Cl)) (hl : ∀ k ∈ l.map Prod.snd, 0 < lvC k) (h) {off : Fin 2 → ℕ} (h')
    {sm : DmaSem sig} (hsm : sm = smG s) {h1} {h2} :
    iprop(recs m κ ∗ flH m c s r ∗ ow c l)
      ⊢ iprop(((oP c r 512 (outF m c) ∗ gE (F := F) c s.val 0 512 ∗ lz c (smG s) ∗ ow c l) -∗ WP c (kk ⟨⟩) Q)
        -∗ WP c (.op (.waitDma2 sm (gW s.val h) (oW off h') h1 h2) kk) Q) := by
  subst hsm
  unfold flH ow
  iintro ⟨#HR, HF, ⟨%W, HO⟩⟩ Hk
  iapply (Transfers.wp_waitLocalO EC 𝒱₀ (c : Thread nD τ) none (dstw := oW off h') () (N := MH) rfl (O := oweL l) (W := W)) $$ [HF HO]
  · isplitl [HF]; · iexact HF
    isplitl [HO]; · iexact HO
    iapply (wait_local m κ c (lvS_smG s) l hl); iexact HR
  iintro ⟨⟨Hs, Hw⟩, Hz, HO⟩
  iapply Hk
  isplitl [Hs]; · iexact Hs
  isplitl [Hw]; · iexact Hw
  isplitl [Hz]; · iexact Hz
  iexists _; iexact HO
/-- The wait for a copy of 256 rows: the rows of the result are final, the slot is free. -/
theorem st_landQ (c : Dev nD) (s : Fin 2) (r : ℕ) (l : List (Dev nD × Cl)) (hl : ∀ k ∈ l.map Prod.snd, 0 < lvC k) (h) {off : Fin 2 → ℕ} (h')
    {sm : DmaSem sig} (hsm : sm = smG s) {h1} {h2} :
    iprop(recs m κ ∗ flQ m c s r ∗ ow c l)
      ⊢ iprop(((oP c r 256 (outF m c) ∗ gE (F := F) c s.val 0 256 ∗ lz c (smG s) ∗ ow c l) -∗ WP c (kk ⟨⟩) Q)
        -∗ WP c (.op (.waitDma2 sm (gQ s.val h) (oQ off h') h1 h2) kk) Q) := by
  subst hsm
  unfold flQ ow
  iintro ⟨#HR, HF, ⟨%W, HO⟩⟩ Hk
  iapply (Transfers.wp_waitLocalO EC 𝒱₀ (c : Thread nD τ) none (dstw := oQ off h') () (N := MQ) rfl (O := oweL l) (W := W)) $$ [HF HO]
  · isplitl [HF]; · iexact HF
    isplitl [HO]; · iexact HO
    iapply (wait_local m κ c (lvS_smG s) l hl); iexact HR
  iintro ⟨⟨Hs, Hw⟩, Hz, HO⟩
  iapply Hk
  isplitl [Hs]; · iexact Hs
  isplitl [Hw]; · iexact Hw
  isplitl [Hz]; · iexact Hz
  iexists _; iexact HO

end Cert.Ag

end
-- ==== Proof.Remote.lean ====
/-
The kernel's remote copies: the staged block to the neighbours, then a neighbour's rows onward; and the waits
for the copies.
-/
module

public import proofs.«01_k».proof.Proof.Local

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

variable {α : Type} {Q : α → sProp (MT nD τ sig Unit (Elt F) ℕ UU ℕ)} {kk : PUnit → Prog (TpuEff nD τ sig (Elt F) Λ₀ .tc) α}

/-- Half of the staged block as the source of a copy. -/
theorem xP_eq (c : Dev nD) (q : PosShare TreeShare) (r : ℕ) (h) (g : Buf (Elt F) ((c : Thread nD τ).loc cc0_stg0_0)) :
    xP c q r 512 g = ((xW r h).view.loc (c : Thread nD τ) ↦[(xW r h).view.set]{q} g) :=
  congrArg (fun S : Finset (⟨2, ![1024, 4096]⟩ : Shape).Idx => (((c : Thread nD τ).loc cc0_stg0_0) ↦[S]{q} g : sProp 𝕄)) (xW_set r h).symm
/-- Half a slot of the receive buffer as a copy's window; -/
theorem cP_eqH (c : Dev nD) (q : PosShare TreeShare) (s r : ℕ) (h) (g : Buf (Elt F) ((c : Thread nD τ).loc cc0_scratch0)) :
    cP c q s r 512 g = ((cW s r h).view.loc (c : Thread nD τ) ↦[(cW s r h).view.set]{q} g) :=
  congrArg (fun S : Finset (⟨3, ![2, 1024, 4096]⟩ : Shape).Idx => (((c : Thread nD τ).loc cc0_scratch0) ↦[S]{q} g : sProp 𝕄)) (cW_set s r h).symm
/-- a quarter of a slot. -/
theorem cP_eqQ (c : Dev nD) (q : PosShare TreeShare) (s r : ℕ) (h) (g : Buf (Elt F) ((c : Thread nD τ).loc cc0_scratch0)) :
    cP c q s r 256 g = ((cQ s r h).view.loc (c : Thread nD τ) ↦[(cQ s r h).view.set]{q} g) :=
  congrArg (fun S : Finset (⟨3, ![2, 1024, 4096]⟩ : Shape).Idx => (((c : Thread nD τ).loc cc0_scratch0) ↦[S]{q} g : sProp 𝕄)) (cQ_set s r h).symm

/-- A copy of rows of the staged block to a neighbour. -/
theorem send_x (c e n : Dev nD) (ks kr : Cl) (l l' : List (Dev nD × Cl)) (hl : l = (e, kr) :: l') (hn : n = e)
    (q : PosShare TreeShare) (s r : ℕ) (h h') {sS sR : DmaSem sig} (hS : SemLoc.dma sS = csem ks) (hD : SemLoc.dma sR = csem kr)
    {hsc : (cW s r h').view.ref.isScScratch = false} {h1} {h2} {h3}
    (hks : amt ks = NH) (hkr : amt kr = NH)
    (hpS : pay m c false ks = xP c q r 512 (xs m c)) (hpR : pay m e false kr = cP e fullShare s r 512 (L0 m e))
    (hd : if s = 0 then c = lf e else c = rt e) :
    iprop(recs m κ ∗ xP c q r 512 (xs m c) ∗ (∃ f, cP (F := F) e fullShare s r 512 f) ∗ tk c ks ∗ tok e kr false ∗ ow c l)
      ⊢ iprop(((rdy c ks ∗ ow c l') -∗ WP c (kk ⟨⟩) Q)
        -∗ WP c (.op (.enqueueDma (xW r h) (.remote (Dev.tc n : Thread nD τ) (cW s r h') (.dma sS) hsc) (.dma sR) h1 h2 h3) kk) Q) := by
  subst hn
  have hp := st_send (kk := kk) (Q := Q) m κ c n n ks kr l l' hl (hks.trans hkr.symm) rfl (src := xW r h) (dst := cW s r h') (hsc := hsc) hS hD (hsrc := h1) (hdst := h2) (hsem := h3)
    (q := q) (fs := xs m c) (g := L0 m n) (hkr ▸ rfl) (hpS.trans (xP_eq c q r h _)) (hpR.trans (cP_eqH n fullShare s r h' _))
    ((read_cW m n c s r h' hd).trans (read_xW m c r h).symm)
  refine BIBase.Entails.trans ?_ hp
  iintro ⟨#HR, Hs, ⟨%f, Hd⟩, Hr⟩
  isplitr; · iexact HR
  isplitl [Hs]; · rw [hpS]; iexact Hs
  isplitl [Hd]
  · iexists f
    iapply (Entails.of_eq (cP_eqH n fullShare s r h' f)) $$ Hd
  iexact Hr

/-- A copy of a neighbour's rows onward. -/
theorem send_q (c e n : Dev nD) (ks kr : Cl) (l l' : List (Dev nD × Cl)) (hl : l = (e, kr) :: l') (hn : n = e)
    (q : PosShare TreeShare) (s s' r : ℕ) (h h') {sS sR : DmaSem sig} (hS : SemLoc.dma sS = csem ks) (hD : SemLoc.dma sR = csem kr)
    {hsc : (cQ s' r h').view.ref.isScScratch = false} {h1} {h2} {h3}
    (hks : amt ks = NQ) (hkr : amt kr = NQ)
    (hpS : pay m c false ks = cP c q s r 256 (L0 m c)) (hpR : pay m e false kr = cP e fullShare s' r 256 (L1 m e))
    (hd : if s = 0 then op e = lf c else op e = rt c) :
    iprop(recs m κ ∗ cP c q s r 256 (L0 m c) ∗ (∃ f, cP (F := F) e fullShare s' r 256 f) ∗ tk c ks ∗ tok e kr false ∗ ow c l)
      ⊢ iprop(((rdy c ks ∗ ow c l') -∗ WP c (kk ⟨⟩) Q)
        -∗ WP c (.op (.enqueueDma (cQ s r h) (.remote (Dev.tc n : Thread nD τ) (cQ s' r h') (.dma sS) hsc) (.dma sR) h1 h2 h3) kk) Q) := by
  subst hn
  have hp := st_send (kk := kk) (Q := Q) m κ c n n ks kr l l' hl (hks.trans hkr.symm) rfl (src := cQ s r h) (dst := cQ s' r h') (hsc := hsc) hS hD (hsrc := h1) (hdst := h2) (hsem := h3)
    (q := q) (fs := L0 m c) (g := L1 m n) (hkr ▸ rfl) (hpS.trans (cP_eqQ c q s r h _)) (hpR.trans (cP_eqQ n fullShare s' r h' _))
    ((read_cQ' m n s' r h').trans (read_cQ m c (op n) s r h hd).symm)
  refine BIBase.Entails.trans ?_ hp
  iintro ⟨#HR, Hs, ⟨%f, Hd⟩, Hr⟩
  isplitr; · iexact HR
  isplitl [Hs]; · rw [hpS]; iexact Hs
  isplitl [Hd]
  · iexists f
    iapply (Entails.of_eq (cP_eqQ n fullShare s' r h' f)) $$ Hd
  iexact Hr

/-- The wait for a remote copy takes what it hands over. -/
theorem take_d (c : Dev nD) (k : Cl) (hk : k ≠ bar) (l : List (Dev nD × Cl)) (hlv : ∀ k' ∈ l.map Prod.snd, lvC k < lvC k')
    {P : sProp 𝕄} (hP : pay m c false k = P)
    {sm : DmaSem sig} (hsm : SemLoc.dma sm = csem k) {sp sp' : Space} {s : Shape} {ty : EltTy} {src : Memref sig .tc sp s ty} {dst : Memref sig .tc sp' s ty} {h1} {h2}
    (hu : dst.view.dmaCredit = amt k) :
    iprop(recs m κ ∗ rdy c k ∗ ow c l)
      ⊢ iprop(((zero c k ∗ P ∗ ow c l) -∗ WP c (kk ⟨⟩) Q) -∗ WP c (.op (.waitDma2 sm src dst h1 h2) kk) Q) := by
  subst hP
  exact st_take m κ c k hk l hlv hsm hu (wpE_waitDma2_eq 𝒱₀ (c : Thread nD τ) none Set.univ)

/-- The wait for 512 rows, at either end of their copy. -/
theorem take_H (c : Dev nD) (k : Cl) (hk : k ≠ bar) (l : List (Dev nD × Cl)) (hlv : ∀ k' ∈ l.map Prod.snd, lvC k < lvC k')
    (P : sProp 𝕄) (hP : pay m c false k = P) (ha : amt k = NH)
    {sm : DmaSem sig} (hsm : SemLoc.dma sm = csem k) {sp : Space} {src : Memref sig .tc sp S512x4096 .bf16} {s r : ℕ} {h} {h1} {h2} :
    iprop(recs m κ ∗ rdy c k ∗ ow c l)
      ⊢ iprop(((zero c k ∗ P ∗ ow c l) -∗ WP c (kk ⟨⟩) Q) -∗ WP c (.op (.waitDma2 sm src (cW s r h) h1 h2) kk) Q) :=
  take_d m κ c k hk l hlv hP hsm (ha ▸ rfl)

/-- The wait for a copy of the device's own rows to have left. -/
theorem take_X (c : Dev nD) (k : Cl) (hk : k ≠ bar) (l : List (Dev nD × Cl)) (hlv : ∀ k' ∈ l.map Prod.snd, lvC k < lvC k')
    (P : sProp 𝕄) (hP : pay m c false k = P) (ha : amt k = NH)
    {sm : DmaSem sig} (hsm : SemLoc.dma sm = csem k) {sp : Space} {src : Memref sig .tc sp S512x4096 .bf16} {r : ℕ} {h} {h1} {h2} :
    iprop(recs m κ ∗ rdy c k ∗ ow c l)
      ⊢ iprop(((zero c k ∗ P ∗ ow c l) -∗ WP c (kk ⟨⟩) Q) -∗ WP c (.op (.waitDma2 sm src (xW r h) h1 h2) kk) Q) :=
  take_d m κ c k hk l hlv hP hsm (ha ▸ rfl)

/-- The wait for 256 rows. -/
theorem take_Q (c : Dev nD) (k : Cl) (hk : k ≠ bar) (l : List (Dev nD × Cl)) (hlv : ∀ k' ∈ l.map Prod.snd, lvC k < lvC k')
    (P : sProp 𝕄) (hP : pay m c false k = P) (ha : amt k = NQ)
    {sm : DmaSem sig} (hsm : SemLoc.dma sm = csem k) {sp : Space} {src : Memref sig .tc sp S256x4096 .bf16} {s r : ℕ} {h} {h1} {h2} :
    iprop(recs m κ ∗ rdy c k ∗ ow c l)
      ⊢ iprop(((zero c k ∗ P ∗ ow c l) -∗ WP c (kk ⟨⟩) Q) -∗ WP c (.op (.waitDma2 sm src (cQ s r h) h1 h2) kk) Q) :=
  take_d m κ c k hk l hlv hP hsm (ha ▸ rfl)

/-- The wait for a neighbour's rows to be free. -/
theorem take_r (c : Dev nD) (k : Cl) (hk : k ≠ bar) (l : List (Dev nD × Cl)) (hlv : ∀ k' ∈ l.map Prod.snd, lvC k < lvC k')
    (P : sProp 𝕄) (hP : pay m c false k = P) {sm : Sem sig} (hsm : SemLoc.reg sm = csem k) {u : ℕ} (hu : u = amt k) :
    iprop(recs m κ ∗ rdy c k ∗ ow c l)
      ⊢ iprop(((zero c k ∗ P ∗ ow c l) -∗ WP c (kk ⟨⟩) Q) -∗ WP c (.op (.semWait sm u) kk) Q) := by
  subst hP
  exact st_take m κ c k hk l hlv hsm hu (wpE_semWait_eq 𝒱₀ (c : Thread nD τ) none Set.univ)

end Cert.Ag

end
-- ==== Proof.Pieces.lean ====
/-
Splitting the buffers into the rows the kernel handles and putting them together again; the debts left after a
number of payments; the kernel's functions at the operands the program calls them with.
-/
module

public import proofs.«01_k».proof.Proof.Remote

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-! ## Rows -/

/-- Consecutive rows of a slot joined. -/
theorem slab_add {a b : ℕ} (s r n k : ℕ) : (slab s r n : Finset (⟨3, ![2, a, b]⟩ : Shape).Idx) ∪ slab s (r + n) k = slab s r (n + k) := by
  ext i
  rw [Finset.mem_union, mem_slab, mem_slab, mem_slab]
  omega
/-- Consecutive rows of a slot do not meet. -/
theorem slab_disj {a b : ℕ} (s r n k : ℕ) : Disjoint (slab s r n : Finset (⟨3, ![2, a, b]⟩ : Shape).Idx) (slab s (r + n) k) := by
  rw [Finset.disjoint_left]
  intro i h1 h2
  rw [mem_slab] at h1 h2
  omega
/-- The two slots are the whole buffer. -/
theorem slab_all {a b : ℕ} : (slab 0 0 a : Finset (⟨3, ![2, a, b]⟩ : Shape).Idx) ∪ slab 1 0 a = Finset.univ := by
  ext i
  rw [Finset.mem_union, mem_slab, mem_slab]
  have h0 : (i 0).val < 2 := (i 0).isLt
  have h1 : (i 1).val < a := (i 1).isLt
  simp only [Finset.mem_univ, iff_true]
  omega
/-- The two slots do not meet. -/
theorem slab_disj' {a b r n k l : ℕ} : Disjoint (slab 0 r n : Finset (⟨3, ![2, a, b]⟩ : Shape).Idx) (slab 1 k l) := by
  rw [Finset.disjoint_left]
  intro i h1 h2
  rw [mem_slab] at h1 h2
  omega
/-- Consecutive rows joined. -/
theorem band_add {a b : ℕ} (r n k : ℕ) : (band r n : Finset (⟨2, ![a, b]⟩ : Shape).Idx) ∪ band (r + n) k = band r (n + k) := by
  ext i
  rw [Finset.mem_union, mem_band, mem_band, mem_band]
  omega
/-- Consecutive rows do not meet. -/
theorem band_disj {a b : ℕ} (r n k : ℕ) : Disjoint (band r n : Finset (⟨2, ![a, b]⟩ : Shape).Idx) (band (r + n) k) := by
  rw [Finset.disjoint_left]
  intro i h1 h2
  rw [mem_band] at h1 h2
  omega
/-- All rows are the whole buffer. -/
theorem band_all {a b : ℕ} : (band 0 a : Finset (⟨2, ![a, b]⟩ : Shape).Idx) = Finset.univ := by
  ext i
  rw [mem_band]
  have h1 : (i 0).val < a := (i 0).isLt
  simp only [Finset.mem_univ, iff_true]
  omega

/-- Elements held together are held apart. -/
theorem pts_split {ℓ : Loc nD τ sig} {I J S : Finset (Idx ℓ)} (hS : I ∪ J = S) (hd : Disjoint I J) {q : PosShare TreeShare} {f : Buf (Elt F) ℓ} :
    (ℓ ↦[S]{q} f : sProp 𝕄) ⊣⊢ iprop((ℓ ↦[I]{q} f) ∗ ℓ ↦[J]{q} f) := by
  subst hS
  exact pointsTo_union hd
/-- The same, whatever the elements hold. -/
theorem pts_splitE {ℓ : Loc nD τ sig} {I J S : Finset (Idx ℓ)} (hS : I ∪ J = S) (hd : Disjoint I J) {q : PosShare TreeShare} :
    iprop(∃ f : Buf (Elt F) ℓ, ℓ ↦[S]{q} f) ⊢ (iprop((∃ f : Buf (Elt F) ℓ, ℓ ↦[I]{q} f) ∗ (∃ f : Buf (Elt F) ℓ, ℓ ↦[J]{q} f)) : sProp 𝕄) := by
  iintro ⟨%f, H⟩
  ihave H := (pts_split hS hd).1 $$ H
  icases H with ⟨H1, H2⟩
  isplitl [H1]
  · iexists f; iexact H1
  iexists f; iexact H2
/-- Two parts with some contents each are the joined part with some contents. -/
theorem pts_joinE {ℓ : Loc nD τ sig} {I J S : Finset (Idx ℓ)} (hS : I ∪ J = S) (hd : Disjoint I J) {q : PosShare TreeShare} :
    iprop((∃ f : Buf (Elt F) ℓ, ℓ ↦[I]{q} f) ∗ (∃ f : Buf (Elt F) ℓ, ℓ ↦[J]{q} f)) ⊢ (iprop(∃ f : Buf (Elt F) ℓ, ℓ ↦[S]{q} f) : sProp 𝕄) := by
  subst hS
  iintro ⟨⟨%f, H1⟩, ⟨%g, H2⟩⟩
  iexists _
  iapply (pointsTo_join hd)
  isplitl [H1]; · iexact H1
  iexact H2

/-- Rows of the communication buffer, holding anything. -/
abbrev cE (c : Dev nD) (s r n : ℕ) : sProp 𝕄 := iprop(∃ f, cP (F := F) c fullShare s r n f)

/-- Rows of the receive buffer cut in two. -/
theorem cP_split (c : Dev nD) (q : PosShare TreeShare) (s r n k : ℕ) (f : Buf (Elt F) ((c : Thread nD τ).loc cc0_scratch0)) :
    cP c q s r (n + k) f ⊣⊢ iprop(cP c q s r n f ∗ cP c q s (r + n) k f) :=
  pts_split (ℓ := (c : Thread nD τ).loc cc0_scratch0) (slab_add (a := 1024) (b := 4096) s r n k) (slab_disj s r n k)
/-- The same with contents unknown: -/
theorem cE_split (c : Dev nD) (s r n k : ℕ) : cE (F := F) c s r (n + k) ⊢ iprop(cE (F := F) c s r n ∗ cE (F := F) c s (r + n) k) :=
  pts_splitE (ℓ := (c : Thread nD τ).loc cc0_scratch0) (slab_add (a := 1024) (b := 4096) s r n k) (slab_disj s r n k)
/-- cut and joined. -/
theorem cE_join (c : Dev nD) (s r n k : ℕ) : iprop(cE (F := F) c s r n ∗ cE (F := F) c s (r + n) k) ⊢ cE (F := F) c s r (n + k) :=
  pts_joinE (ℓ := (c : Thread nD τ).loc cc0_scratch0) (slab_add (a := 1024) (b := 4096) s r n k) (slab_disj s r n k)
/-- Rows of the stage of the result cut in two, -/
theorem gE_split (c : Dev nD) (s r n k : ℕ) : gE (F := F) c s r (n + k) ⊢ iprop(gE (F := F) c s r n ∗ gE (F := F) c s (r + n) k) :=
  pts_splitE (ℓ := (c : Thread nD τ).loc cc0_scratch3) (slab_add (a := 512) (b := 2048) s r n k) (slab_disj s r n k)
/-- and joined. -/
theorem gE_join (c : Dev nD) (s r n k : ℕ) : iprop(gE (F := F) c s r n ∗ gE (F := F) c s (r + n) k) ⊢ gE (F := F) c s r (n + k) :=
  pts_joinE (ℓ := (c : Thread nD τ).loc cc0_scratch3) (slab_add (a := 512) (b := 2048) s r n k) (slab_disj s r n k)
/-- Rows of the staged block cut in two. -/
theorem xP_split (c : Dev nD) (q : PosShare TreeShare) (r n k : ℕ) (f : Buf (Elt F) ((c : Thread nD τ).loc cc0_stg0_0)) :
    xP c q r (n + k) f ⊣⊢ iprop(xP c q r n f ∗ xP c q (r + n) k f) :=
  pts_split (ℓ := (c : Thread nD τ).loc cc0_stg0_0) (band_add (a := 1024) (b := 4096) r n k) (band_disj r n k)
/-- Rows of the rounded weights cut in two. -/
theorem bP_split (c : Dev nD) (r n k : ℕ) (f : Buf (Elt F) ((c : Thread nD τ).loc cc0_scratch1)) :
    bP c r (n + k) f ⊣⊢ iprop(bP c r n f ∗ bP c (r + n) k f) :=
  pts_split (ℓ := (c : Thread nD τ).loc cc0_scratch1) (band_add (a := 4096) (b := 2048) r n k) (band_disj r n k)
/-- Rows of the result cut in two. -/
theorem oP_split (c : Dev nD) (r n k : ℕ) (f : Buf (Elt F) ((c : Thread nD τ).loc main_v1)) :
    oP c r (n + k) f ⊣⊢ iprop(oP c r n f ∗ oP c (r + n) k f) :=
  pts_split (ℓ := (c : Thread nD τ).loc main_v1) (band_add (a := 4096) (b := 2048) r n k) (band_disj r n k)

/-- All rows of the rounded weights. -/
theorem bP_all (c : Dev nD) (f : Buf (Elt F) ((c : Thread nD τ).loc cc0_scratch1)) :
    (((c : Thread nD τ).loc cc0_scratch1) ↦{fullShare} f : sProp 𝕄) = bP c 0 4096 f :=
  congrArg (fun S : Finset (⟨2, ![4096, 2048]⟩ : Shape).Idx => (((c : Thread nD τ).loc cc0_scratch1) ↦[S]{fullShare} f : sProp 𝕄)) band_all.symm
/-- All rows of the result. -/
theorem oP_all (c : Dev nD) (f : Buf (Elt F) ((c : Thread nD τ).loc main_v1)) :
    (((c : Thread nD τ).loc main_v1) ↦{fullShare} f : sProp 𝕄) = oP c 0 4096 f :=
  congrArg (fun S : Finset (⟨2, ![4096, 2048]⟩ : Shape).Idx => (((c : Thread nD τ).loc main_v1) ↦[S]{fullShare} f : sProp 𝕄)) band_all.symm
/-- All rows of the staged block. -/
theorem xP_all (c : Dev nD) (q : PosShare TreeShare) (f : Buf (Elt F) ((c : Thread nD τ).loc cc0_stg0_0)) :
    (((c : Thread nD τ).loc cc0_stg0_0) ↦{q} f : sProp 𝕄) = xP c q 0 1024 f :=
  congrArg (fun S : Finset (⟨2, ![1024, 4096]⟩ : Shape).Idx => (((c : Thread nD τ).loc cc0_stg0_0) ↦[S]{q} f : sProp 𝕄)) band_all.symm

/-- Rows of the result and of the rounded weights, holding anything. -/
abbrev oE (c : Dev nD) (r n : ℕ) : sProp 𝕄 := iprop(∃ f, oP (F := F) c r n f)
/-- Rows of the rounded weights with some contents; -/
abbrev bE (c : Dev nD) (r n : ℕ) : sProp 𝕄 := iprop(∃ f, bP (F := F) c r n f)
/-- the stage of the weights with some contents. -/
abbrev sE (c : Dev nD) : sProp 𝕄 := iprop(∃ f, sP (F := F) c f)

/-- No device is opposite itself. -/
theorem ne_op (c : Dev nD) : c ≠ op c := by revert c; decide
/-- The left neighbour is not the device opposite. -/
theorem lf_ne_op (c : Dev nD) : lf c ≠ op c := by revert c; decide
/-- Nor is the right one. -/
theorem rt_ne_op (c : Dev nD) : rt c ≠ op c := by revert c; decide

/-! ## What is stored, as products -/

/-- Half products of received rows: the left neighbour's upper half; -/
theorem pay8_eq (v : FVec F S1x512x4096 .bf16) (w : FVec F S4096x2048 .bf16) :
    k0_pay8 v w = k0_pay6 (prodH (shapeCast S512x4096 v shapeCasts_S1x512x4096_S512x4096) w) := rfl
/-- the next one; -/
theorem pay9_eq (v : FVec F S1x512x4096 .bf16) (w : FVec F S4096x2048 .bf16) :
    k0_pay9 v w = k0_pay6 (prodH (shapeCast S512x4096 v shapeCasts_S1x512x4096_S512x4096) w) := rfl
/-- and the one after. -/
theorem pay10_eq (v : FVec F S1x512x4096 .bf16) (w : FVec F S4096x2048 .bf16) :
    k0_pay10 v w = k0_pay6 (prodH (shapeCast S512x4096 v shapeCasts_S1x512x4096_S512x4096) w) := rfl
/-- Quarter products: the first, -/
theorem pay14_eq (v : FVec F S256x4096 .bf16) (w : FVec F S4096x2048 .bf16) :
    k0_pay14 v w = shapeCast S1x256x2048 (prodQ v w) shapeCasts_S256x2048_S1x256x2048 := rfl
/-- the second, -/
theorem pay16_eq (v : FVec F S256x4096 .bf16) (w : FVec F S4096x2048 .bf16) :
    k0_pay16 v w = shapeCast S1x256x2048 (prodQ v w) shapeCasts_S256x2048_S1x256x2048 := rfl
/-- the third, -/
theorem pay18_eq (v : FVec F S256x4096 .bf16) (w : FVec F S4096x2048 .bf16) :
    k0_pay18 v w = shapeCast S1x256x2048 (prodQ v w) shapeCasts_S256x2048_S1x256x2048 := rfl
/-- the fourth. -/
theorem pay20_eq (v : FVec F S256x4096 .bf16) (w : FVec F S4096x2048 .bf16) :
    k0_pay20 v w = shapeCast S1x256x2048 (prodQ v w) shapeCasts_S256x2048_S1x256x2048 := rfl

/-! ## The payloads another device is owed -/

/-- What a device hands its left neighbour at the barrier: slot 0. -/
theorem pay_bar_lf (c : Dev nD) : pay (F := F) m (lf c) true bar = cE (F := F) c 0 0 1024 := by
  show iprop(∃ f, cP (F := F) (rt (lf c)) fullShare 0 0 1024 f) = _
  rw [rt_lf]
/-- What it hands its right neighbour: slot 1. -/
theorem pay_bar_rt (c : Dev nD) : pay (F := F) m (rt c) false bar = cE (F := F) c 1 0 1024 := by
  show iprop(∃ f, cP (F := F) (lf (rt c)) fullShare 1 0 1024 f) = _
  rw [lf_rt]
/-- What the first credit hands to the left: the upper half of slot 1. -/
theorem pay_cbr_lf (c : Dev nD) : pay (F := F) m (lf c) false cbr = cE (F := F) c 1 0 512 := by
  show iprop(∃ f, cP (F := F) (rt (lf c)) fullShare 1 0 512 f) = _
  rw [rt_lf]
/-- What the second hands to the right: the lower half of slot 0. -/
theorem pay_cbl_rt (c : Dev nD) : pay (F := F) m (rt c) false cbl = cE (F := F) c 0 512 512 := by
  show iprop(∃ f, cP (F := F) (lf (rt c)) fullShare 0 512 512 f) = _
  rw [lf_rt]

/-! ## The debts left -/

/-- What `c` owes after `n` payments. -/
abbrev dl (c : Dev nD) (n : ℕ) : List (Dev nD × Cl) := (debts c).drop n
/-- The cells among them. -/
def dk (n : ℕ) : List Cl := [bar, bar, rcv 0, rcv 1, rcv 2, rcv 3, cbr, rcv 4, rcv 5, cbl, rcv 6, rcv 7].drop n
/-- The cells of the debts left. -/
theorem dl_dk (c : Dev nD) (n : ℕ) : (dl c n).map Prod.snd = dk n := by
  unfold dl dk; rw [List.map_drop]; rfl
/-- A level below the cells of the debts left. -/
theorem above {v : ℕ} (c : Dev nD) (n : ℕ) (h : ∀ k ∈ dk n, v < lvC k) : ∀ k ∈ (dl c n).map Prod.snd, v < lvC k := by
  rw [dl_dk]; exact h

/-- A program that has ended has its result. -/
theorem st_ret {α : Type} (c : Dev nD) (a : α) {Q : α → sProp (MT nD τ sig Unit (Elt F) ℕ UU ℕ)} : Q a ⊢ WP c (.ret a) Q :=
  fupd_intro

/-- Both duties of the barrier's round. -/
theorem mem_bar (e : Dev nD) (d : Bool) : d ∈ (sched (F := F) m).duties (cell e bar) 0 := by
  rw [duties_bar]; exact Finset.mem_univ _

/-! ## The functions at their operands -/

/-- A function of the kernel's operands at the ones the program passes. -/
abbrev at_ops {β : Type 1}
    (p : (arg0 : Memref sig .tc .vmem S1024x4096 .bf16) → arg0.IsWhole → (arg1 : Memref sig .tc .hbm S4096x2048 .f32) → arg1.IsWhole →
      (arg2 : Memref sig .tc .hbm S4096x2048 .bf16) → arg2.IsWhole → (arg3 : Memref sig .tc .vmem S2x1024x4096 .bf16) → arg3.IsWhole →
      (arg4 : Memref sig .tc .vmem S4096x2048 .bf16) → arg4.IsWhole → (arg5 : Memref sig .tc .vmem S1024x2048 .f32) → arg5.IsWhole →
      (arg6 : Memref sig .tc .vmem S2x512x2048 .bf16) → arg6.IsWhole → DmaSems sig S8 → DmaSems sig S8 → DmaSems sig S_ → DmaSems sig S2 →
      Sems sig S_ → Sems sig S_ → β) : β :=
  p xM (Memref.isWhole_whole _) (Memref.whole main_arg1) (Memref.isWhole_whole _) (Memref.whole main_v1) (Memref.isWhole_whole _)
    cM (Memref.isWhole_whole _) bM (Memref.isWhole_whole _) sM (Memref.isWhole_whole _) gM (Memref.isWhole_whole _)
    cc0_scratch4 cc0_scratch5 cc0_scratch6 cc0_scratch7 cc0_scratch8 cc0_scratch9

end Cert.Ag

end
-- ==== Proof.PartsA.lean ====
/-
The entry handshake, the four copies of the device's own rows to its neighbours, and the rounding of its weights.
-/
module

public import proofs.«01_k».proof.Proof.Pieces

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- The handshake on the barrier and the two copies to the right. -/
theorem part2 (c : Dev nD) (v13 v24 : BitVec 32) {Q : (Σ' (_ : BitVec 32), BitVec 32) → sProp 𝕄} :
    iprop(recs m κ ∗ ow c (dl c 0) ∗ tok (lf c) bar true ∗ tok (rt c) bar false ∗ cE (F := F) c 0 0 1024 ∗ cE (F := F) c 1 0 1024
        ∗ atPos ER (cell c bar) 0 ∅ 0 ∗ cred (tallyAt (cell c bar) () 2)
        ∗ xP c qA 0 512 (xs m c) ∗ xP c qA 512 512 (xs m c) ∗ tk c (snd 0) ∗ tk c (snd 1) ∗ tok (rt c) (rcv 0) false ∗ tok (rt c) (rcv 1) false)
      ⊢ iprop((∀ r, (zero c bar ∗ cE (F := F) (lf c) 1 0 512 ∗ cE (F := F) (lf c) 1 512 512 ∗ rdy c (snd 0) ∗ rdy c (snd 1) ∗ ow c (dl c 4)) -∗ Q r)
        -∗ WP c (at_ops (k0_part2 (F := F)) c v13 v24) Q) := by
  iintro ⟨#HR, Ho, Ht1, Ht2, HA, HB, Hat, Hcr, Hx0, Hx1, Hk0, Hk1, Hr0, Hr1⟩ HQ
  simp only [at_ops, k0_part2_eq_skeleton]
  unfold k0_part2_skel
  simp only [semSignalWord, semWaitWord, Prog.lift, Prog.bind_op, Prog.bind_ret, Prog.pure_eq_ret]
  iapply (st_signal m κ c (lf c) _ bar true (dl c 0) (dl c 1) rfl (mem_bar m _ _) (dev1_eq c) rfl rfl) $$ [Ho Ht1 HA]
  · rw [pay_bar_lf]; iframe HR Ho Ht1 HA
  iintro Ho
  iapply (st_signal m κ c (rt c) _ bar false (dl c 1) (dl c 2) rfl (mem_bar m _ _) (dev2_eq c) rfl rfl) $$ [Ho Ht2 HB]
  · rw [pay_bar_rt]; iframe HR Ho Ht2 HB
  iintro Ho
  iapply (st_take_bar m κ c (dl c 2) (above c 2 (by decide)) rfl rfl) $$ [$HR $Hat $Hcr $Ho]
  iintro ⟨Hz, HL, HRt, Ho⟩
  ihave ⟨HL0, HL1⟩ := (cE_split (F := F) (lf c) 1 0 512 512) $$ HL
  ihave ⟨HR0, HR1⟩ := (cE_split (F := F) (rt c) 0 0 512 512) $$ HRt
  iapply (send_x m κ c (rt c) _ (snd 0) (rcv 0) (dl c 2) (dl c 3) rfl (dev3_eq c) qA 0 0 _ _ rfl rfl rfl rfl rfl rfl (by simp [lf_rt])) $$ [$HR $Hx0 $HR0 $Hk0 $Hr0 $Ho]
  iintro ⟨Hd0, Ho⟩
  iapply (send_x m κ c (rt c) _ (snd 1) (rcv 1) (dl c 3) (dl c 4) rfl (dev4_eq c) qA 0 512 _ _ rfl rfl rfl rfl rfl rfl (by simp [lf_rt])) $$ [$HR $Hx1 $HR1 $Hk1 $Hr1 $Ho]
  iintro ⟨Hd1, Ho⟩
  iapply st_ret
  iapply HQ
  iframe Hz HL0 HL1 Hd0 Hd1 Ho

/-- The two copies to the left, the first slab of the weights rounded and the second fetched. -/
theorem part3 (c : Dev nD) (v13 v59 c0 : BitVec 32) {Q : PUnit → sProp 𝕄} :
    iprop(recs m κ ∗ ow c (dl c 4) ∗ cE (F := F) (lf c) 1 0 512 ∗ cE (F := F) (lf c) 1 512 512
        ∗ xP c qB 0 512 (xs m c) ∗ xP c qB 512 512 (xs m c) ∗ tk c (snd 2) ∗ tk c (snd 3) ∗ tok (lf c) (rcv 2) false ∗ tok (lf c) (rcv 3) false
        ∗ wArg m c ∗ sE (F := F) c ∗ lz c smW ∗ bE (F := F) c 0 1024)
      ⊢ iprop(((rdy c (snd 2) ∗ rdy c (snd 3) ∗ ow c (dl c 6) ∗ wArg m c ∗ lz c smW ∗ bP c 0 1024 (wb m c)
          ∗ sP c ((wW 1024 inb_S4096x2048_S1024x2048_1024_0).view.read (Elt F) (m ((c : Thread nD τ).loc main_arg1)))) -∗ Q ⟨⟩)
        -∗ WP c (at_ops (k0_part3 (F := F)) c v13 v59 c0) Q) := by
  iintro ⟨#HR, Ho, HL0, HL1, Hx0, Hx1, Hk0, Hk1, Hr0, Hr1, Hw, Hs, Hz, Hb⟩ HQ
  simp only [at_ops, k0_part3_eq_skeleton]
  unfold k0_part3_skel
  simp only [Prog.lift, Prog.bind_op, Prog.bind_ret, Prog.pure_eq_ret]
  iapply (send_x m κ c (lf c) _ (snd 2) (rcv 2) (dl c 4) (dl c 5) rfl (dev5_eq c) qB 1 0 _ _ rfl rfl rfl rfl rfl rfl (by simp [rt_lf])) $$ [$HR $Hx0 $HL0 $Hk0 $Hr0 $Ho]
  iintro ⟨Hd0, Ho⟩
  iapply (send_x m κ c (lf c) _ (snd 3) (rcv 3) (dl c 5) (dl c 6) rfl (dev6_eq c) qB 1 512 _ _ rfl rfl rfl rfl rfl rfl (by simp [rt_lf])) $$ [$HR $Hx1 $HL1 $Hk1 $Hr1 $Ho]
  iintro ⟨Hd1, Ho⟩
  iapply (st_fetch m κ c (dl c 6) (above c 6 (by decide)) 0 _ _ rfl rfl) $$ [$HR $Hw $Hs $Hz $Ho]
  iintro ⟨Hw, Hs, Hz, Ho⟩
  iapply (st_cast m c 0 _ _ _ _ (fun _ => rfl)) $$ [$Hs $Hb]
  iintro ⟨Hs, Hb⟩
  iapply (st_fetch m κ c (dl c 6) (above c 6 (by decide)) 1024 _ _ rfl rfl) $$ [$HR $Hw $Hs $Hz $Ho]
  iintro ⟨Hw, Hs, Hz, Ho⟩
  iapply st_ret
  iapply HQ
  iframe Hd0 Hd1 Ho Hw Hz Hb Hs

/-- The other slabs of the weights rounded, and the product of the first half of the device's own rows. -/
theorem part4 (c : Dev nD) (v2 : BitVec 32) {Q : (Σ' (_ : FVec F S512x2048 .bf16), Vec F S1x512x2048 .bf16) → sProp 𝕄} :
    iprop(recs m κ ∗ ow c (dl c 6) ∗ wArg m c ∗ lz c smW ∗ bP c 0 1024 (wb m c) ∗ bE (F := F) c 1024 1024 ∗ bE (F := F) c 2048 1024 ∗ bE (F := F) c 3072 1024
        ∗ sP c ((wW 1024 inb_S4096x2048_S1024x2048_1024_0).view.read (Elt F) (m ((c : Thread nD τ).loc main_arg1)))
        ∗ xP c qK 0 512 (xs m c) ∗ gE (F := F) c 0 0 512)
      ⊢ iprop((∀ u, (ow c (dl c 6) ∗ wArg m c ∗ lz c smW ∗ bW m c ∗ sE (F := F) c ∗ xP c qK 0 512 (xs m c) ∗ gE (F := F) c 0 0 512)
            -∗ Q ⟨prodH (xRow m 512 c 0) (wb m c), u⟩)
        -∗ WP c (at_ops (k0_part4 (F := F)) v2) Q) := by
  iintro ⟨#HR, Ho, Hw, Hz, Hb0, Hb1, Hb2, Hb3, Hs, Hx, Hg⟩ HQ
  simp only [at_ops, k0_part4_eq_skeleton]
  unfold k0_part4_skel
  simp only [Prog.lift, Prog.bind_op, Prog.bind_ret, Prog.pure_eq_ret]
  iapply (st_cast m c 1024 _ _ _ _ (fun _ => rfl)) $$ [$Hs $Hb1]
  iintro ⟨Hs, Hb1⟩
  iapply (st_fetch m κ c (dl c 6) (above c 6 (by decide)) 2048 _ _ rfl rfl) $$ [$HR $Hw $Hs $Hz $Ho]
  iintro ⟨Hw, Hs, Hz, Ho⟩
  iapply (st_cast m c 2048 _ _ _ _ (fun _ => rfl)) $$ [$Hs $Hb2]
  iintro ⟨Hs, Hb2⟩
  iapply (st_fetch m κ c (dl c 6) (above c 6 (by decide)) 3072 _ _ rfl rfl) $$ [$HR $Hw $Hs $Hz $Ho]
  iintro ⟨Hw, Hs, Hz, Ho⟩
  iapply (st_cast m c 3072 _ _ _ _ (fun _ => rfl)) $$ [$Hs $Hb3]
  iintro ⟨Hs, Hb3⟩
  iapply (ld_x m c 0 _) $$ Hx
  iintro Hx
  ihave Hb := (bP_split (F := F) c 0 1024 1024 (wb m c)).2 $$ [$Hb0 $Hb1]
  ihave Hb := (bP_split (F := F) c 0 2048 1024 (wb m c)).2 $$ [$Hb $Hb2]
  ihave Hb := (bP_split (F := F) c 0 3072 1024 (wb m c)).2 $$ [$Hb $Hb3]
  ihave Hb := (Entails.of_eq (bP_all c (wb m c)).symm) $$ Hb
  iapply (ld_b m c _) $$ Hb
  iintro Hb
  iapply (ld_gH c 0 _) $$ Hg
  iintro %u Hg
  iapply st_ret
  rw [pay5_eq]
  iapply HQ
  iframe Ho Hw Hz Hb Hs Hx Hg

/-- The products of the device's own rows are on their way to the result. -/
theorem part5 (c : Dev nD) (v2 v24 : BitVec 32) (v111 : Vec F S1x512x2048 .bf16) {Q : PUnit → sProp 𝕄} :
    iprop(gE (F := F) c 0 0 512 ∗ gE (F := F) c 1 0 512 ∗ oE (F := F) c (1024 * c.val) 512 ∗ oE (F := F) c (1024 * c.val + 512) 512
        ∗ lz c (smG 0) ∗ lz c (smG 1) ∗ xP c qK 512 512 (xs m c) ∗ bW m c)
      ⊢ iprop(((flH m c 0 (1024 * c.val) ∗ flH m c 1 (1024 * c.val + 512) ∗ xP c qK 512 512 (xs m c) ∗ bW m c) -∗ Q ⟨⟩)
        -∗ WP c (at_ops (k0_part5 (F := F)) c v2 v24 (prodH (xRow m 512 c 0) (wb m c)) v111) Q) := by
  iintro ⟨Hg0, Hg1, Ho0, Ho1, Hz0, Hz1, Hx, Hb⟩ HQ
  simp only [at_ops, k0_part5_eq_skeleton]
  unfold k0_part5_skel
  simp only [Prog.lift, Prog.bind_op, Prog.bind_ret, Prog.pure_eq_ret]
  iapply (st_gH c 0 _ (prodH (xRow m 512 c 0) (wb m c)) rfl) $$ Hg0
  iintro Hg0
  iapply (st_outH m c 0 (1024 * c.val) _ (off1_eq c) _ (read_oW m c c 0 (off1_eq c) _ (ne_op c) (.inl rfl)) rfl) $$ [$Hg0 $Ho0 $Hz0]
  iintro Hf0
  iapply (ld_x m c 512 _) $$ Hx
  iintro Hx
  iapply (ld_b m c _) $$ Hb
  iintro Hb
  iapply (ld_gH c 1 _) $$ Hg1
  iintro %u Hg1
  iapply (st_gH c 1 _ (prodH (xRow m 512 c 512) (wb m c)) (pay7_eq _ _)) $$ Hg1
  iintro Hg1
  iapply (st_outH m c 1 (1024 * c.val + 512) _ (off2_eq c) _ (read_oW m c c 512 (off2_eq c) _ (ne_op c) (.inr rfl)) rfl) $$ [$Hg1 $Ho1 $Hz1]
  iintro Hf1
  iapply st_ret
  iapply HQ
  iframe Hf0 Hf1 Hx Hb

end Cert.Ag

end
-- ==== Proof.PartsB.lean ====
/-
The first hop has arrived: the products of the neighbours' rows, the neighbours' rows passed on, and the rest of the first hop.
-/
module

public import proofs.«01_k».proof.Proof.PartsA

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- The upper halves of both neighbours' rows have arrived; the product of the left one's is stored. -/
theorem part6 (c : Dev nD) (v13 : BitVec 32) {Q : PUnit → sProp 𝕄} :
    iprop(recs m κ ∗ ow c (dl c 6) ∗ rdy c (rcv 0) ∗ rdy c (rcv 2) ∗ flH m c 0 (1024 * c.val) ∗ bW m c)
      ⊢ iprop(((ow c (dl c 6) ∗ zero c (rcv 0) ∗ zero c (rcv 2) ∗ cP c fullShare 0 0 512 (L0 m c) ∗ cP c fullShare 1 0 512 (L0 m c)
          ∗ oP c (1024 * c.val) 512 (outF m c) ∗ gH c 0 inb_S2x512x2048_S1x512x2048_0_0_0 (prodH (xRow m 512 (lf c) 0) (wb m c)) ∗ lz c (smG 0) ∗ bW m c) -∗ Q ⟨⟩)
        -∗ WP c (at_ops (k0_part6 (F := F)) c v13) Q) := by
  iintro ⟨#HR, Ho, Hr0, Hr2, Hf, Hb⟩ HQ
  simp only [at_ops, k0_part6_eq_skeleton]
  unfold k0_part6_skel
  simp only [Prog.lift, Prog.bind_op, Prog.bind_ret, Prog.pure_eq_ret]
  iapply (take_H m κ c (rcv 0) (by decide) (dl c 6) (above c 6 (by decide)) (cP c fullShare 0 0 512 (L0 m c)) rfl rfl rfl) $$ [$HR $Hr0 $Ho]
  iintro ⟨Hz0, Hc0, Ho⟩
  iapply (take_H m κ c (rcv 2) (by decide) (dl c 6) (above c 6 (by decide)) (cP c fullShare 1 0 512 (L0 m c)) rfl rfl rfl) $$ [$HR $Hr2 $Ho]
  iintro ⟨Hz2, Hc2, Ho⟩
  iapply (ld_cH c fullShare 0 0 _ (L0 m c) (read_cW m c (lf c) 0 0 _ rfl)) $$ Hc0
  iintro %v %hv Hc0
  iapply (st_landH m κ c 0 (1024 * c.val) (dl c 6) (above c 6 (by decide)) _ _ rfl) $$ [$HR $Hf $Ho]
  iintro ⟨HO, Hg, Hz, Ho⟩
  iapply (ld_b m c _) $$ Hb
  iintro Hb
  iapply (ld_gH c (0 : Fin 2).val _) $$ Hg
  iintro %u Hg
  iapply (st_gH c (0 : Fin 2).val inb_S2x512x2048_S1x512x2048_0_0_0 (prodH (xRow m 512 (lf c) 0) (wb m c)) (by rw [pay8_eq, hv]; rfl)) $$ Hg
  iintro Hg
  iapply st_ret
  iapply HQ
  iframe Ho Hz0 Hz2 Hc0 Hc2 HO Hg Hz Hb

/-- The product of the left neighbour's rows leaves, that of the right one's follows, and the right one's rows are given free. -/
theorem part7 (c : Dev nD) (v13 v24 : BitVec 32) {Q : (Σ' (_ : BitVec 32), BitVec 32) → sProp 𝕄} :
    iprop(recs m κ ∗ ow c (dl c 6) ∗ cP c fullShare 1 0 512 (L0 m c) ∗ gH c 0 inb_S2x512x2048_S1x512x2048_0_0_0 (prodH (xRow m 512 (lf c) 0) (wb m c)) ∗ lz c (smG 0)
        ∗ oE (F := F) c (1024 * (lf c).val) 512 ∗ oE (F := F) c (1024 * (rt c).val) 512 ∗ flH m c 1 (1024 * c.val + 512) ∗ bW m c
        ∗ tok (lf c) cbr false ∗ rdy c cbr)
      ⊢ iprop((∀ r, (ow c (dl c 7) ∗ flH m c 0 (1024 * (lf c).val) ∗ flH m c 1 (1024 * (rt c).val) ∗ oP c (1024 * c.val + 512) 512 (outF m c) ∗ bW m c
          ∗ zero c cbr ∗ cE (F := F) (rt c) 1 0 512) -∗ Q r)
        -∗ WP c (at_ops (k0_part7 (F := F)) c v13 v24) Q) := by
  iintro ⟨#HR, Ho, Hc, Hg0, Hz0, HO0, HO1, Hf, Hb, Ht, Hy⟩ HQ
  simp only [at_ops, k0_part7_eq_skeleton]
  unfold k0_part7_skel
  simp only [semSignalWord, semWaitWord, Prog.lift, Prog.bind_op, Prog.bind_ret, Prog.pure_eq_ret]
  iapply (st_outH m c 0 (1024 * (lf c).val) _ (off3_eq c) _ (read_oW m c (lf c) 0 (off3_eq c) _ (lf_ne_op c) (.inl rfl)) rfl) $$ [$Hg0 $HO0 $Hz0]
  iintro Hf0
  iapply (ld_cH c fullShare 1 0 _ (L0 m c) (read_cW m c (rt c) 1 0 _ rfl)) $$ Hc
  iintro %v %hv Hc
  iapply (st_landH m κ c 1 (1024 * c.val + 512) (dl c 6) (above c 6 (by decide)) _ _ rfl) $$ [$HR $Hf $Ho]
  iintro ⟨HO, Hg, Hz, Ho⟩
  iapply (ld_b m c _) $$ Hb
  iintro Hb
  iapply (ld_gH c (1 : Fin 2).val _) $$ Hg
  iintro %u Hg
  iapply (st_gH c (1 : Fin 2).val _ (prodH (xRow m 512 (rt c) 0) (wb m c)) (by rw [pay9_eq, hv]; rfl)) $$ Hg
  iintro Hg
  iapply (st_outH m c 1 (1024 * (rt c).val) _ (off4_eq c) _ (read_oW m c (rt c) 0 (off4_eq c) _ (rt_ne_op c) (.inl rfl)) rfl) $$ [$Hg $HO1 $Hz]
  iintro Hf1
  iapply (st_signal m κ c (lf c) _ cbr false (dl c 6) (dl c 7) rfl (mem_duties m _ _) (dev7_eq c) rfl rfl) $$ [Ho Ht Hc]
  · rw [pay_cbr_lf]
    iframe HR Ho Ht
    iexists _; iexact Hc
  iintro Ho
  iapply (take_r m κ c cbr (by decide) (dl c 7) (above c 7 (by decide)) (cE (F := F) (rt c) 1 0 512) rfl rfl rfl) $$ [$HR $Hy $Ho]
  iintro ⟨Hzc, HC, Ho⟩
  iapply st_ret
  iapply HQ
  iframe Ho Hf0 Hf1 HO Hb Hzc HC

/-- The left neighbour's upper rows are passed on to the right; its lower rows have arrived. -/
theorem part8 (c : Dev nD) (v13 v24 v188 c0 : BitVec 32) {Q : PUnit → sProp 𝕄} :
    iprop(recs m κ ∗ ow c (dl c 7) ∗ cP c fullShare 0 0 512 (L0 m c) ∗ cE (F := F) (rt c) 1 0 512 ∗ tk c (snd 4) ∗ tk c (snd 5)
        ∗ tok (rt c) (rcv 4) false ∗ tok (rt c) (rcv 5) false ∗ rdy c (rcv 1))
      ⊢ iprop(((ow c (dl c 9) ∗ rdy c (snd 4) ∗ rdy c (snd 5) ∗ zero c (rcv 1) ∗ cP c fullShare 0 512 512 (L0 m c)) -∗ Q ⟨⟩)
        -∗ WP c (at_ops (k0_part8 (F := F)) c v13 v24 v188 c0) Q) := by
  iintro ⟨#HR, Ho, Hc, HC, Hk4, Hk5, Ht4, Ht5, Hr1⟩ HQ
  simp only [at_ops, k0_part8_eq_skeleton]
  unfold k0_part8_skel
  simp only [Prog.lift, Prog.bind_op, Prog.bind_ret, Prog.pure_eq_ret]
  ihave ⟨Hc0, Hc1⟩ := (cP_split (F := F) c fullShare 0 0 256 256 (L0 m c)).1 $$ Hc
  ihave ⟨HC0, HC1⟩ := (cE_split (F := F) (rt c) 1 0 256 256) $$ HC
  iapply (send_q m κ c (rt c) _ (snd 4) (rcv 4) (dl c 7) (dl c 8) rfl (dev8_eq c) fullShare 0 1 0 _ _ rfl rfl rfl rfl rfl rfl (by simp [op_rt])) $$ [$HR $Hc0 $HC0 $Hk4 $Ht4 $Ho]
  iintro ⟨Hd4, Ho⟩
  iapply (send_q m κ c (rt c) _ (snd 5) (rcv 5) (dl c 8) (dl c 9) rfl (dev9_eq c) fullShare 0 1 256 _ _ rfl rfl rfl rfl rfl rfl (by simp [op_rt])) $$ [$HR $Hc1 $HC1 $Hk5 $Ht5 $Ho]
  iintro ⟨Hd5, Ho⟩
  iapply (take_H m κ c (rcv 1) (by decide) (dl c 9) (above c 9 (by decide)) (cP c fullShare 0 512 512 (L0 m c)) rfl rfl rfl) $$ [$HR $Hr1 $Ho]
  iintro ⟨Hz, Hc, Ho⟩
  iapply st_ret
  iapply HQ
  iframe Ho Hd4 Hd5 Hz Hc

/-- The right neighbour's lower rows have arrived; the product of the left one's leaves, and they are given free. -/
theorem part9 (c : Dev nD) (v13 v24 : BitVec 32) {Q : PUnit → sProp 𝕄} :
    iprop(recs m κ ∗ ow c (dl c 9) ∗ rdy c (rcv 3) ∗ cP c fullShare 0 512 512 (L0 m c) ∗ flH m c 0 (1024 * (lf c).val)
        ∗ oE (F := F) c (1024 * (lf c).val + 512) 512 ∗ bW m c ∗ tok (rt c) cbl false)
      ⊢ iprop(((ow c (dl c 10) ∗ zero c (rcv 3) ∗ cP c fullShare 1 512 512 (L0 m c) ∗ oP c (1024 * (lf c).val) 512 (outF m c)
          ∗ flH m c 0 (1024 * (lf c).val + 512) ∗ bW m c) -∗ Q ⟨⟩)
        -∗ WP c (at_ops (k0_part9 (F := F)) c v13 v24) Q) := by
  iintro ⟨#HR, Ho, Hr3, Hc, Hf, HO, Hb, Ht⟩ HQ
  simp only [at_ops, k0_part9_eq_skeleton]
  unfold k0_part9_skel
  simp only [semSignalWord, Prog.lift, Prog.bind_op, Prog.bind_ret, Prog.pure_eq_ret]
  iapply (take_H m κ c (rcv 3) (by decide) (dl c 9) (above c 9 (by decide)) (cP c fullShare 1 512 512 (L0 m c)) rfl rfl rfl) $$ [$HR $Hr3 $Ho]
  iintro ⟨Hz3, Hc3, Ho⟩
  iapply (ld_cH c fullShare 0 512 _ (L0 m c) (read_cW m c (lf c) 0 512 _ rfl)) $$ Hc
  iintro %v %hv Hc
  iapply (st_landH m κ c 0 (1024 * (lf c).val) (dl c 9) (above c 9 (by decide)) _ _ rfl) $$ [$HR $Hf $Ho]
  iintro ⟨HO', Hg, Hz, Ho⟩
  iapply (ld_b m c _) $$ Hb
  iintro Hb
  iapply (ld_gH c (0 : Fin 2).val _) $$ Hg
  iintro %u Hg
  iapply (st_gH c (0 : Fin 2).val _ (prodH (xRow m 512 (lf c) 512) (wb m c)) (by rw [pay10_eq, hv]; rfl)) $$ Hg
  iintro Hg
  iapply (st_outH m c 0 (1024 * (lf c).val + 512) _ (off5_eq c) _ (read_oW m c (lf c) 512 (off5_eq c) _ (lf_ne_op c) (.inr rfl)) rfl) $$ [$Hg $HO $Hz]
  iintro Hf
  iapply (st_signal m κ c (rt c) _ cbl false (dl c 9) (dl c 10) rfl (mem_duties m _ _) (dev10_eq c) rfl rfl) $$ [Ho Ht Hc]
  · rw [pay_cbl_rt]
    iframe HR Ho Ht
    iexists _; iexact Hc
  iintro Ho
  iapply st_ret
  iapply HQ
  iframe Ho Hz3 Hc3 HO' Hf Hb

/-- The right neighbour's lower rows are passed on to the left, and read. -/
theorem part10 (c : Dev nD) (v13 v24 : BitVec 32) {Q : FVec F S512x4096 .bf16 → sProp 𝕄} :
    iprop(recs m κ ∗ ow c (dl c 10) ∗ rdy c cbl ∗ cP c fullShare 1 512 512 (L0 m c) ∗ tk c (snd 6) ∗ tk c (snd 7)
        ∗ tok (lf c) (rcv 6) false ∗ tok (lf c) (rcv 7) false)
      ⊢ iprop(((ow c (dl c 12) ∗ zero c cbl ∗ rdy c (snd 6) ∗ rdy c (snd 7) ∗ cP c fullShare.right 1 512 512 (L0 m c)) -∗ Q (xRow m 512 (rt c) 512))
        -∗ WP c (at_ops (k0_part10 (F := F)) c v13 v24) Q) := by
  iintro ⟨#HR, Ho, Hy, Hc, Hk6, Hk7, Ht6, Ht7⟩ HQ
  simp only [at_ops, k0_part10_eq_skeleton]
  unfold k0_part10_skel
  simp only [semWaitWord, Prog.lift, Prog.bind_op, Prog.bind_ret, Prog.pure_eq_ret]
  iapply (take_r m κ c cbl (by decide) (dl c 10) (above c 10 (by decide)) (cE (F := F) (lf c) 0 512 512) rfl rfl rfl) $$ [$HR $Hy $Ho]
  iintro ⟨Hz, HC, Ho⟩
  ihave ⟨Hcl, Hcr⟩ := (pointsTo_share (PosShare.mem_left_op_right fullShare)).1 $$ Hc
  ihave ⟨Hc0, Hc1⟩ := (cP_split (F := F) c fullShare.left 1 512 256 256 (L0 m c)).1 $$ Hcl
  ihave ⟨HC0, HC1⟩ := (cE_split (F := F) (lf c) 0 512 256 256) $$ HC
  iapply (send_q m κ c (lf c) _ (snd 6) (rcv 6) (dl c 10) (dl c 11) rfl (dev11_eq c) fullShare.left 1 0 512 _ _ rfl rfl rfl rfl rfl rfl (by simp [op_lf])) $$ [$HR $Hc0 $HC0 $Hk6 $Ht6 $Ho]
  iintro ⟨Hd6, Ho⟩
  iapply (send_q m κ c (lf c) _ (snd 7) (rcv 7) (dl c 11) (dl c 12) rfl (dev12_eq c) fullShare.left 1 0 768 _ _ rfl rfl rfl rfl rfl rfl (by simp [op_lf])) $$ [$HR $Hc1 $HC1 $Hk7 $Ht7 $Ho]
  iintro ⟨Hd7, Ho⟩
  iapply (ld_cH c fullShare.right 1 512 _ (L0 m c) (read_cW m c (rt c) 1 512 _ rfl)) $$ Hcr
  iintro %v %hv Hcr
  iapply st_ret
  rw [show k0_pay11 v = xRow m 512 (rt c) 512 from hv]
  iapply HQ
  iframe Ho Hz Hd6 Hd7 Hcr

/-- The product of the right neighbour's lower rows leaves; the opposite device's first rows have arrived. -/
theorem part11 (c : Dev nD) (v24 v35 : BitVec 32) {Q : FVec F S256x4096 .bf16 → sProp 𝕄} :
    iprop(recs m κ ∗ ow c (dl c 12) ∗ flH m c 1 (1024 * (rt c).val) ∗ oE (F := F) c (1024 * (rt c).val + 512) 512 ∗ bW m c ∗ rdy c (rcv 4))
      ⊢ iprop(((ow c (dl c 12) ∗ oP c (1024 * (rt c).val) 512 (outF m c) ∗ flH m c 1 (1024 * (rt c).val + 512) ∗ bW m c ∗ zero c (rcv 4)
          ∗ cP c fullShare 1 0 256 (L1 m c)) -∗ Q (xRow m 256 (op c) 0))
        -∗ WP c (at_ops (k0_part11 (F := F)) c v24 v35 (xRow m 512 (rt c) 512)) Q) := by
  iintro ⟨#HR, Ho, Hf, HO, Hb, Hr⟩ HQ
  simp only [at_ops, k0_part11_eq_skeleton]
  unfold k0_part11_skel
  simp only [Prog.lift, Prog.bind_op, Prog.bind_ret, Prog.pure_eq_ret]
  iapply (st_landH m κ c 1 (1024 * (rt c).val) (dl c 12) (above c 12 (by decide)) _ _ rfl) $$ [$HR $Hf $Ho]
  iintro ⟨HO', Hg, Hz, Ho⟩
  iapply (ld_b m c _) $$ Hb
  iintro Hb
  iapply (ld_gH c (1 : Fin 2).val _) $$ Hg
  iintro %u Hg
  iapply (st_gH c (1 : Fin 2).val _ (prodH (xRow m 512 (rt c) 512) (wb m c)) rfl) $$ Hg
  iintro Hg
  iapply (st_outH m c 1 (1024 * (rt c).val + 512) _ (off6_eq c) _ (read_oW m c (rt c) 512 (off6_eq c) _ (rt_ne_op c) (.inr rfl)) rfl) $$ [$Hg $HO $Hz]
  iintro Hf
  iapply (take_Q m κ c (rcv 4) (by decide) (dl c 12) (above c 12 (by decide)) (cP c fullShare 1 0 256 (L1 m c)) rfl rfl rfl) $$ [$HR $Hr $Ho]
  iintro ⟨Hz4, Hc, Ho⟩
  iapply (ld_cQ c fullShare 1 0 _ (L1 m c) (read_cQ' m c 1 0 _)) $$ Hc
  iintro %v %hv Hc
  iapply st_ret
  rw [show k0_pay13 v = xRow m 256 (op c) 0 from hv]
  iapply HQ
  iframe Ho HO' Hf Hb Hz4 Hc

end Cert.Ag

end
-- ==== Proof.PartsC.lean ====
/-
The second hop has arrived: the products of the opposite device's rows, and the waits that end the program.
-/
module

public import proofs.«01_k».proof.Proof.PartsB

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- The first product of the opposite device's rows leaves, and its second rows have arrived. -/
theorem part12 (c : Dev nD) (v24 v35 : BitVec 32) {Q : FVec F S256x4096 .bf16 → sProp 𝕄} :
    iprop(recs m κ ∗ ow c (dl c 12) ∗ flH m c 0 (1024 * (lf c).val + 512) ∗ oE (F := F) c (1024 * (op c).val) 256 ∗ bW m c ∗ rdy c (rcv 5))
      ⊢ iprop(((ow c (dl c 12) ∗ oP c (1024 * (lf c).val + 512) 512 (outF m c) ∗ flQ m c 0 (1024 * (op c).val) ∗ bW m c ∗ zero c (rcv 5)
          ∗ cP c fullShare 1 256 256 (L1 m c) ∗ gE (F := F) c 0 256 256) -∗ Q (xRow m 256 (op c) 256))
        -∗ WP c (at_ops (k0_part12 (F := F)) c v24 v35 (xRow m 256 (op c) 0)) Q) := by
  iintro ⟨#HR, Ho, Hf, HO, Hb, Hr⟩ HQ
  simp only [at_ops, k0_part12_eq_skeleton]
  unfold k0_part12_skel
  simp only [Prog.lift, Prog.bind_op, Prog.bind_ret, Prog.pure_eq_ret]
  iapply (st_landH m κ c 0 (1024 * (lf c).val + 512) (dl c 12) (above c 12 (by decide)) _ _ rfl) $$ [$HR $Hf $Ho]
  iintro ⟨HO', Hg, Hz, Ho⟩
  iapply (ld_b m c _) $$ Hb
  iintro Hb
  ihave ⟨Hg, Hg'⟩ := (gE_split (F := F) c (0 : Fin 2).val 0 256 256) $$ Hg
  iapply (ld_gQ c (0 : Fin 2).val _) $$ Hg
  iintro %u Hg
  iapply (st_gQ c (0 : Fin 2).val _ (prodQ (xRow m 256 (op c) 0) (wb m c)) (pay14_eq _ _)) $$ Hg
  iintro Hg
  iapply (st_outQ m c 0 (1024 * (op c).val) _ (off7_eq c) _ (read_oQ m c 0 (off7_eq c) _ (by decide)) rfl) $$ [$Hg $HO $Hz]
  iintro Hf
  iapply (take_Q m κ c (rcv 5) (by decide) (dl c 12) (above c 12 (by decide)) (cP c fullShare 1 256 256 (L1 m c)) rfl rfl rfl) $$ [$HR $Hr $Ho]
  iintro ⟨Hz4, Hc, Ho⟩
  iapply (ld_cQ c fullShare 1 256 _ (L1 m c) (read_cQ' m c 1 256 _)) $$ Hc
  iintro %v %hv Hc
  iapply st_ret
  rw [show k0_pay15 v = xRow m 256 (op c) 256 from hv]
  iapply HQ
  iframe Ho HO' Hf Hb Hz4 Hc Hg'

/-- The second product of the opposite device's rows leaves, and its third rows have arrived. -/
theorem part13 (c : Dev nD) (v13 v35 : BitVec 32) {Q : FVec F S256x4096 .bf16 → sProp 𝕄} :
    iprop(recs m κ ∗ ow c (dl c 12) ∗ flH m c 1 (1024 * (rt c).val + 512) ∗ oE (F := F) c (1024 * (op c).val + 256) 256 ∗ bW m c ∗ rdy c (rcv 6))
      ⊢ iprop(((ow c (dl c 12) ∗ oP c (1024 * (rt c).val + 512) 512 (outF m c) ∗ flQ m c 1 (1024 * (op c).val + 256) ∗ bW m c ∗ zero c (rcv 6)
          ∗ cP c fullShare 0 512 256 (L1 m c) ∗ gE (F := F) c 1 256 256) -∗ Q (xRow m 256 (op c) 512))
        -∗ WP c (at_ops (k0_part13 (F := F)) c v13 v35 (xRow m 256 (op c) 256)) Q) := by
  iintro ⟨#HR, Ho, Hf, HO, Hb, Hr⟩ HQ
  simp only [at_ops, k0_part13_eq_skeleton]
  unfold k0_part13_skel
  simp only [Prog.lift, Prog.bind_op, Prog.bind_ret, Prog.pure_eq_ret]
  iapply (st_landH m κ c 1 (1024 * (rt c).val + 512) (dl c 12) (above c 12 (by decide)) _ _ rfl) $$ [$HR $Hf $Ho]
  iintro ⟨HO', Hg, Hz, Ho⟩
  iapply (ld_b m c _) $$ Hb
  iintro Hb
  ihave ⟨Hg, Hg'⟩ := (gE_split (F := F) c (1 : Fin 2).val 0 256 256) $$ Hg
  iapply (ld_gQ c (1 : Fin 2).val _) $$ Hg
  iintro %u Hg
  iapply (st_gQ c (1 : Fin 2).val _ (prodQ (xRow m 256 (op c) 256) (wb m c)) (pay16_eq _ _)) $$ Hg
  iintro Hg
  iapply (st_outQ m c 1 (1024 * (op c).val + 256) _ (off8_eq c) _ (read_oQ m c 256 (off8_eq c) _ (by decide)) rfl) $$ [$Hg $HO $Hz]
  iintro Hf
  iapply (take_Q m κ c (rcv 6) (by decide) (dl c 12) (above c 12 (by decide)) (cP c fullShare 0 512 256 (L1 m c)) rfl rfl rfl) $$ [$HR $Hr $Ho]
  iintro ⟨Hz4, Hc, Ho⟩
  iapply (ld_cQ c fullShare 0 512 _ (L1 m c) (read_cQ' m c 0 512 _)) $$ Hc
  iintro %v %hv Hc
  iapply st_ret
  rw [show k0_pay17 v = xRow m 256 (op c) 512 from hv]
  iapply HQ
  iframe Ho HO' Hf Hb Hz4 Hc Hg'

/-- The third product of the opposite device's rows leaves, and its last rows have arrived. -/
theorem part14 (c : Dev nD) (v13 : BitVec 32) {Q : (Σ' (_ : FVec F S256x4096 .bf16), BitVec 32) → sProp 𝕄} :
    iprop(recs m κ ∗ ow c (dl c 12) ∗ flQ m c 0 (1024 * (op c).val) ∗ oE (F := F) c (1024 * (op c).val + 512) 256 ∗ bW m c ∗ rdy c (rcv 7))
      ⊢ iprop(((ow c (dl c 12) ∗ oP c (1024 * (op c).val) 256 (outF m c) ∗ flQ m c 0 (1024 * (op c).val + 512) ∗ bW m c ∗ zero c (rcv 7)
          ∗ cP c fullShare 0 768 256 (L1 m c)) -∗ Q ⟨xRow m 256 (op c) 768, 1024#32⟩)
        -∗ WP c (at_ops (k0_part14 (F := F)) c v13 (xRow m 256 (op c) 512)) Q) := by
  iintro ⟨#HR, Ho, Hf, HO, Hb, Hr⟩ HQ
  simp only [at_ops, k0_part14_eq_skeleton]
  unfold k0_part14_skel
  simp only [Prog.lift, Prog.bind_op, Prog.bind_ret, Prog.pure_eq_ret]
  iapply (st_landQ m κ c 0 (1024 * (op c).val) (dl c 12) (above c 12 (by decide)) _ _ rfl) $$ [$HR $Hf $Ho]
  iintro ⟨HO', Hg, Hz, Ho⟩
  iapply (ld_b m c _) $$ Hb
  iintro Hb
  iapply (ld_gQ c (0 : Fin 2).val _) $$ Hg
  iintro %u Hg
  iapply (st_gQ c (0 : Fin 2).val _ (prodQ (xRow m 256 (op c) 512) (wb m c)) (pay18_eq _ _)) $$ Hg
  iintro Hg
  iapply (st_outQ m c 0 (1024 * (op c).val + 512) _ (off8'_eq c) _ (read_oQ m c 512 (off8'_eq c) _ (by decide)) rfl) $$ [$Hg $HO $Hz]
  iintro Hf
  iapply (take_Q m κ c (rcv 7) (by decide) (dl c 12) (above c 12 (by decide)) (cP c fullShare 0 768 256 (L1 m c)) rfl rfl rfl) $$ [$HR $Hr $Ho]
  iintro ⟨Hz4, Hc, Ho⟩
  iapply (ld_cQ c fullShare 0 768 _ (L1 m c) (read_cQ' m c 0 768 _)) $$ Hc
  iintro %v %hv Hc
  iapply st_ret
  rw [show k0_pay19 v = xRow m 256 (op c) 768 from hv]
  iapply HQ
  iframe Ho HO' Hf Hb Hz4 Hc

/-- The last product leaves, and the third has landed. -/
theorem part15 (c : Dev nD) (v35 c1024 : BitVec 32) {Q : PUnit → sProp 𝕄} :
    iprop(recs m κ ∗ ow c (dl c 12) ∗ flQ m c 1 (1024 * (op c).val + 256) ∗ flQ m c 0 (1024 * (op c).val + 512) ∗ oE (F := F) c (1024 * (op c).val + 768) 256 ∗ bW m c)
      ⊢ iprop(((ow c (dl c 12) ∗ oP c (1024 * (op c).val + 256) 256 (outF m c) ∗ oP c (1024 * (op c).val + 512) 256 (outF m c)
          ∗ flQ m c 1 (1024 * (op c).val + 768) ∗ gE (F := F) c 0 0 256 ∗ lz c (smG 0) ∗ bW m c) -∗ Q ⟨⟩)
        -∗ WP c (at_ops (k0_part15 (F := F)) c v35 (xRow m 256 (op c) 768) c1024) Q) := by
  iintro ⟨#HR, Ho, Hf, Hf0, HO, Hb⟩ HQ
  simp only [at_ops, k0_part15_eq_skeleton]
  unfold k0_part15_skel
  simp only [Prog.lift, Prog.bind_op, Prog.bind_ret, Prog.pure_eq_ret]
  iapply (st_landQ m κ c 1 (1024 * (op c).val + 256) (dl c 12) (above c 12 (by decide)) _ _ rfl) $$ [$HR $Hf $Ho]
  iintro ⟨HO', Hg, Hz, Ho⟩
  iapply (ld_b m c _) $$ Hb
  iintro Hb
  iapply (ld_gQ c (1 : Fin 2).val _) $$ Hg
  iintro %u Hg
  iapply (st_gQ c (1 : Fin 2).val _ (prodQ (xRow m 256 (op c) 768) (wb m c)) (pay20_eq _ _)) $$ Hg
  iintro Hg
  iapply (st_outQ m c 1 (1024 * (op c).val + 768) _ (off9_eq c) _ (read_oQ m c 768 (off9_eq c) _ (by decide)) rfl) $$ [$Hg $HO $Hz]
  iintro Hf
  iapply (st_landQ m κ c 0 (1024 * (op c).val + 512) (dl c 12) (above c 12 (by decide)) _ _ rfl) $$ [$HR $Hf0 $Ho]
  iintro ⟨HO2, Hg0, Hz0, Ho⟩
  iapply st_ret
  iapply HQ
  iframe Ho HO' HO2 Hf Hg0 Hz0 Hb

/-- The last product has landed, and the copies of the device's own rows have left. -/
theorem part16 (c : Dev nD) {Q : PUnit → sProp 𝕄} :
    iprop(recs m κ ∗ ow c (dl c 12) ∗ flQ m c 1 (1024 * (op c).val + 768) ∗ rdy c (snd 0) ∗ rdy c (snd 1) ∗ rdy c (snd 2) ∗ rdy c (snd 3))
      ⊢ iprop(((ow c (dl c 12) ∗ oP c (1024 * (op c).val + 768) 256 (outF m c) ∗ gE (F := F) c 1 0 256 ∗ lz c (smG 1)
          ∗ zero c (snd 0) ∗ zero c (snd 1) ∗ zero c (snd 2) ∗ zero c (snd 3)
          ∗ xP c qA 0 512 (xs m c) ∗ xP c qA 512 512 (xs m c) ∗ xP c qB 0 512 (xs m c) ∗ xP c qB 512 512 (xs m c)) -∗ Q ⟨⟩)
        -∗ WP c (at_ops (k0_part16 (F := F)) c) Q) := by
  iintro ⟨#HR, Ho, Hf, Hd0, Hd1, Hd2, Hd3⟩ HQ
  simp only [at_ops, k0_part16_eq_skeleton]
  unfold k0_part16_skel
  simp only [Prog.lift, Prog.bind_op, Prog.bind_ret, Prog.pure_eq_ret]
  iapply (st_landQ m κ c 1 (1024 * (op c).val + 768) (dl c 12) (above c 12 (by decide)) _ _ rfl) $$ [$HR $Hf $Ho]
  iintro ⟨HO, Hg, Hz, Ho⟩
  iapply (take_X m κ c (snd 0) (by decide) (dl c 12) (above c 12 (by decide)) (xP c qA 0 512 (xs m c)) rfl rfl rfl) $$ [$HR $Hd0 $Ho]
  iintro ⟨Hz0, Hx0, Ho⟩
  iapply (take_X m κ c (snd 1) (by decide) (dl c 12) (above c 12 (by decide)) (xP c qA 512 512 (xs m c)) rfl rfl rfl) $$ [$HR $Hd1 $Ho]
  iintro ⟨Hz1, Hx1, Ho⟩
  iapply (take_X m κ c (snd 2) (by decide) (dl c 12) (above c 12 (by decide)) (xP c qB 0 512 (xs m c)) rfl rfl rfl) $$ [$HR $Hd2 $Ho]
  iintro ⟨Hz2, Hx2, Ho⟩
  iapply (take_X m κ c (snd 3) (by decide) (dl c 12) (above c 12 (by decide)) (xP c qB 512 512 (xs m c)) rfl rfl rfl) $$ [$HR $Hd3 $Ho]
  iintro ⟨Hz3, Hx3, Ho⟩
  iapply st_ret
  iapply HQ
  iframe Ho HO Hg Hz Hz0 Hz1 Hz2 Hz3 Hx0 Hx1 Hx2 Hx3

/-- The copies passing the neighbours' rows on have left, the last excepted. -/
theorem part17 (c : Dev nD) {Q : _ → sProp 𝕄} :
    iprop(recs m κ ∗ ow c (dl c 12) ∗ rdy c (snd 4) ∗ rdy c (snd 5) ∗ rdy c (snd 6))
      ⊢ iprop((∀ r, (ow c (dl c 12) ∗ zero c (snd 4) ∗ zero c (snd 5) ∗ zero c (snd 6)
          ∗ cP c fullShare 0 0 256 (L0 m c) ∗ cP c fullShare 0 256 256 (L0 m c) ∗ cP c fullShare.left 1 512 256 (L0 m c)) -∗ Q r)
        -∗ WP c (at_ops (k0_part17 (F := F))) Q) := by
  iintro ⟨#HR, Ho, Hd0, Hd1, Hd2⟩ HQ
  simp only [at_ops, k0_part17_eq_skeleton]
  unfold k0_part17_skel
  simp only [Prog.lift, Prog.bind_op, Prog.bind_ret, Prog.pure_eq_ret]
  iapply (take_Q m κ c (snd 4) (by decide) (dl c 12) (above c 12 (by decide)) (cP c fullShare 0 0 256 (L0 m c)) rfl rfl rfl) $$ [$HR $Hd0 $Ho]
  iintro ⟨Hz0, Hx0, Ho⟩
  iapply (take_Q m κ c (snd 5) (by decide) (dl c 12) (above c 12 (by decide)) (cP c fullShare 0 256 256 (L0 m c)) rfl rfl rfl) $$ [$HR $Hd1 $Ho]
  iintro ⟨Hz1, Hx1, Ho⟩
  iapply (take_Q m κ c (snd 6) (by decide) (dl c 12) (above c 12 (by decide)) (cP c fullShare.left 1 512 256 (L0 m c)) rfl rfl rfl) $$ [$HR $Hd2 $Ho]
  iintro ⟨Hz2, Hx2, Ho⟩
  iapply st_ret
  iapply HQ
  iframe Ho Hz0 Hz1 Hz2 Hx0 Hx1 Hx2

end Cert.Ag

end
-- ==== Proof.Ends.lean ====
/-
The buffers cut into the pieces the program handles, when it starts, and put together when it ends.
-/
module

public import proofs.«01_k».proof.Proof.PartsC

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-! ## The staged rows -/

/-- The staged block in halves of its rows, each at three shares. -/
theorem x_in (c : Dev nD) (f : Buf (Elt F) ((c : Thread nD τ).loc cc0_stg0_0)) :
    (((c : Thread nD τ).loc cc0_stg0_0) ↦{fullShare} f : sProp 𝕄)
      ⊢ iprop((xP c qA 0 512 f ∗ xP c qA 512 512 f) ∗ (xP c qB 0 512 f ∗ xP c qB 512 512 f) ∗ (xP c qK 0 512 f ∗ xP c qK 512 512 f)) := by
  rw [xP_all]
  iintro H
  ihave ⟨HA, H⟩ := (pointsTo_share (PosShare.mem_left_op_right fullShare)).1 $$ H
  ihave ⟨HB, HK⟩ := (pointsTo_share (PosShare.mem_left_op_right fullShare.right)).1 $$ H
  ihave HA := (xP_split (F := F) c qA 0 512 512 f).1 $$ HA
  ihave HB := (xP_split (F := F) c qB 0 512 512 f).1 $$ HB
  ihave HK := (xP_split (F := F) c qK 0 512 512 f).1 $$ HK
  isplitl [HA]; · iexact HA
  isplitl [HB]; · iexact HB
  iexact HK
/-- The staged block is whole again from its six pieces. -/
theorem x_out (c : Dev nD) (f : Buf (Elt F) ((c : Thread nD τ).loc cc0_stg0_0)) :
    iprop((xP c qA 0 512 f ∗ xP c qA 512 512 f) ∗ (xP c qB 0 512 f ∗ xP c qB 512 512 f) ∗ (xP c qK 0 512 f ∗ xP c qK 512 512 f))
      ⊢ (((c : Thread nD τ).loc cc0_stg0_0) ↦{fullShare} f : sProp 𝕄) := by
  rw [xP_all]
  iintro ⟨HA, HB, HK⟩
  ihave HA := (xP_split (F := F) c qA 0 512 512 f).2 $$ HA
  ihave HB := (xP_split (F := F) c qB 0 512 512 f).2 $$ HB
  ihave HK := (xP_split (F := F) c qK 0 512 512 f).2 $$ HK
  iapply (pointsTo_share (PosShare.mem_left_op_right fullShare)).2
  isplitl [HA]; · iexact HA
  iapply (pointsTo_share (PosShare.mem_left_op_right fullShare.right)).2
  isplitl [HB]; · iexact HB
  iexact HK

/-! ## The communication buffer -/

/-- The receive buffer cut into its two slots. -/
theorem c_in (c : Dev nD) : iprop(∃ f, ((c : Thread nD τ).loc cc0_scratch0) ↦{fullShare} f) ⊢ (iprop(cE (F := F) c 0 0 1024 ∗ cE (F := F) c 1 0 1024) : sProp 𝕄) :=
  pts_splitE (ℓ := (c : Thread nD τ).loc cc0_scratch0) (slab_all (a := 1024) (b := 4096)) slab_disj'
/-- The receive buffer is whole again from what the cells hand back. -/
theorem c_out (c : Dev nD) :
    iprop((cP c fullShare 0 0 256 (L0 m c) ∗ cP c fullShare 0 256 256 (L0 m c)) ∗ (cP c fullShare 0 512 256 (L1 m c) ∗ cP c fullShare 0 768 256 (L1 m c))
        ∗ (cP c fullShare 1 0 256 (L1 m c) ∗ cP c fullShare 1 256 256 (L1 m c))
        ∗ (cP c fullShare.left 1 512 256 (L0 m c) ∗ cP c fullShare.left 1 768 256 (L0 m c)) ∗ cP c fullShare.right 1 512 512 (L0 m c))
      ⊢ (iprop(∃ f, ((c : Thread nD τ).loc cc0_scratch0) ↦{fullShare} f) : sProp 𝕄) := by
  iintro ⟨H0, H1, H2, H3, H4⟩
  ihave H0 := (cP_split (F := F) c fullShare 0 0 256 256 (L0 m c)).2 $$ H0
  ihave H1 := (cP_split (F := F) c fullShare 0 512 256 256 (L1 m c)).2 $$ H1
  ihave H2 := (cP_split (F := F) c fullShare 1 0 256 256 (L1 m c)).2 $$ H2
  ihave H3 := (cP_split (F := F) c fullShare.left 1 512 256 256 (L0 m c)).2 $$ H3
  ihave H3 := (pointsTo_share (PosShare.mem_left_op_right fullShare)).2 $$ [$H3 $H4]
  iapply (pts_joinE (ℓ := (c : Thread nD τ).loc cc0_scratch0) (slab_all (a := 1024) (b := 4096)) slab_disj')
  isplitl [H0 H1]
  · iapply (cE_join (F := F) c 0 0 512 512)
    isplitl [H0]
    · iexists _; iexact H0
    iexists _; iexact H1
  iapply (cE_join (F := F) c 1 0 512 512)
  isplitl [H2]
  · iexists _; iexact H2
  iexists _; iexact H3

/-! ## The stage and the rounded weights -/

/-- The output stage cut into its two slots. -/
theorem g_in (c : Dev nD) : iprop(∃ f, ((c : Thread nD τ).loc cc0_scratch3) ↦{fullShare} f) ⊢ (iprop(gE (F := F) c 0 0 512 ∗ gE (F := F) c 1 0 512) : sProp 𝕄) :=
  pts_splitE (ℓ := (c : Thread nD τ).loc cc0_scratch3) (slab_all (a := 512) (b := 2048)) slab_disj'
/-- The output stage is whole again from its four pieces. -/
theorem g_out (c : Dev nD) :
    iprop((gE (F := F) c 0 0 256 ∗ gE (F := F) c 0 256 256) ∗ (gE (F := F) c 1 0 256 ∗ gE (F := F) c 1 256 256))
      ⊢ (iprop(∃ f, ((c : Thread nD τ).loc cc0_scratch3) ↦{fullShare} f) : sProp 𝕄) := by
  iintro ⟨H0, H1⟩
  ihave H0 := (gE_join (F := F) c 0 0 256 256) $$ H0
  ihave H1 := (gE_join (F := F) c 1 0 256 256) $$ H1
  iapply (pts_joinE (ℓ := (c : Thread nD τ).loc cc0_scratch3) (slab_all (a := 512) (b := 2048)) slab_disj')
  isplitl [H0]; · iexact H0
  iexact H1

/-- The rounded weights' buffer cut into four blocks of rows. -/
theorem b_in (c : Dev nD) : iprop(∃ f, ((c : Thread nD τ).loc cc0_scratch1) ↦{fullShare} f)
    ⊢ (iprop(bE (F := F) c 0 1024 ∗ bE (F := F) c 1024 1024 ∗ bE (F := F) c 2048 1024 ∗ bE (F := F) c 3072 1024) : sProp 𝕄) := by
  iintro ⟨%f, H⟩
  ihave H := (Entails.of_eq (bP_all c f)) $$ H
  ihave ⟨H, H3⟩ := (bP_split (F := F) c 0 3072 1024 f).1 $$ H
  ihave ⟨H, H2⟩ := (bP_split (F := F) c 0 2048 1024 f).1 $$ H
  ihave ⟨H0, H1⟩ := (bP_split (F := F) c 0 1024 1024 f).1 $$ H
  isplitl [H0]; · iexists f; iexact H0
  isplitl [H1]; · iexists f; iexact H1
  isplitl [H2]; · iexists f; iexact H2
  iexists f; iexact H3

/-! ## The result -/

/-- The four devices, from `c`. -/
theorem around (c : Dev nD) : (Finset.univ : Finset (Dev nD)) = [c, lf c, rt c, op c].toFinset ∧ [c, lf c, rt c, op c].Nodup := by revert c; decide

/-- The rows of the result by the device they come from. -/
theorem o_dev (c : Dev nD) (f : Buf (Elt F) ((c : Thread nD τ).loc main_v1)) :
    (((c : Thread nD τ).loc main_v1) ↦{fullShare} f : sProp 𝕄)
      = iprop(oP c (1024 * c.val) 1024 f ∗ oP c (1024 * (lf c).val) 1024 f ∗ oP c (1024 * (rt c).val) 1024 f ∗ oP c (1024 * (op c).val) 1024 f) := by
  have h4 : (((c : Thread nD τ).loc main_v1) ↦{fullShare} f : sProp 𝕄) = bigSep Finset.univ fun d : Dev nD => oP c (1024 * d.val) 1024 f := by
    rw [bigSep_univ_eq_bigSepL ([0, 1, 2, 3] : List (Dev nD)) (by decide) (by decide)]
    show _ = iprop(oP c 0 1024 f ∗ oP c 1024 1024 f ∗ oP c 2048 1024 f ∗ oP c 3072 1024 f)
    refine BI.Entails.antisymm (show (((c : Thread nD τ).loc main_v1) ↦{fullShare} f : sProp 𝕄) ⊢ iprop(oP c 0 1024 f ∗ oP c 1024 1024 f ∗ oP c 2048 1024 f ∗ oP c 3072 1024 f) from ?_)
      (show iprop(oP c 0 1024 f ∗ oP c 1024 1024 f ∗ oP c 2048 1024 f ∗ oP c 3072 1024 f) ⊢ (((c : Thread nD τ).loc main_v1) ↦{fullShare} f : sProp 𝕄) from ?_)
    · iintro H
      ihave H := (Entails.of_eq (oP_all c f)) $$ H
      ihave ⟨H, H3⟩ := (oP_split (F := F) c 0 3072 1024 f).1 $$ H
      ihave ⟨H, H2⟩ := (oP_split (F := F) c 0 2048 1024 f).1 $$ H
      ihave ⟨H0, H1⟩ := (oP_split (F := F) c 0 1024 1024 f).1 $$ H
      isplitl [H0]; · iexact H0
      isplitl [H1]; · iexact H1
      isplitl [H2]; · iexact H2
      iexact H3
    · iintro ⟨H0, H1, H2, H3⟩
      iapply (Entails.of_eq (oP_all c f).symm)
      iapply (oP_split (F := F) c 0 3072 1024 f).2
      isplitr [H3]
      · iapply (oP_split (F := F) c 0 2048 1024 f).2
        isplitr [H2]
        · iapply (oP_split (F := F) c 0 1024 1024 f).2
          isplitl [H0]; · iexact H0
          iexact H1
        · iexact H2
      · iexact H3
  rw [h4, bigSep_univ_eq_bigSepL ([c, lf c, rt c, op c] : List (Dev nD)) (around c).1 (around c).2]
  rfl

/-- The result cut into the rows each copy writes. -/
theorem o_in (c : Dev nD) : iprop(∃ f, ((c : Thread nD τ).loc main_v1) ↦{fullShare} f)
    ⊢ (iprop((oE (F := F) c (1024 * c.val) 512 ∗ oE (F := F) c (1024 * c.val + 512) 512) ∗ (oE (F := F) c (1024 * (lf c).val) 512 ∗ oE (F := F) c (1024 * (lf c).val + 512) 512)
      ∗ (oE (F := F) c (1024 * (rt c).val) 512 ∗ oE (F := F) c (1024 * (rt c).val + 512) 512)
      ∗ (oE (F := F) c (1024 * (op c).val) 256 ∗ oE (F := F) c (1024 * (op c).val + 256) 256 ∗ oE (F := F) c (1024 * (op c).val + 512) 256 ∗ oE (F := F) c (1024 * (op c).val + 768) 256)) : sProp 𝕄) := by
  iintro ⟨%f, H⟩
  ihave ⟨H0, H1, H2, H3⟩ := (Entails.of_eq (o_dev c f)) $$ H
  ihave ⟨H0, H0'⟩ := (oP_split (F := F) c (1024 * c.val) 512 512 f).1 $$ H0
  ihave ⟨H1, H1'⟩ := (oP_split (F := F) c (1024 * (lf c).val) 512 512 f).1 $$ H1
  ihave ⟨H2, H2'⟩ := (oP_split (F := F) c (1024 * (rt c).val) 512 512 f).1 $$ H2
  ihave ⟨H3, H6⟩ := (oP_split (F := F) c (1024 * (op c).val) 768 256 f).1 $$ H3
  ihave ⟨H3, H5⟩ := (oP_split (F := F) c (1024 * (op c).val) 512 256 f).1 $$ H3
  ihave ⟨H3, H4⟩ := (oP_split (F := F) c (1024 * (op c).val) 256 256 f).1 $$ H3
  isplitl [H0 H0']
  · isplitl [H0]; · iexists f; iexact H0
    iexists f; iexact H0'
  isplitl [H1 H1']
  · isplitl [H1]; · iexists f; iexact H1
    iexists f; iexact H1'
  isplitl [H2 H2']
  · isplitl [H2]; · iexists f; iexact H2
    iexists f; iexact H2'
  isplitl [H3]; · iexists f; iexact H3
  isplitl [H4]; · iexists f; iexact H4
  isplitl [H5]; · iexists f; iexact H5
  iexists f; iexact H6

/-- The result is whole again from the rows written. -/
theorem o_out (c : Dev nD) (f : Buf (Elt F) ((c : Thread nD τ).loc main_v1)) :
    iprop((oP c (1024 * c.val) 512 f ∗ oP c (1024 * c.val + 512) 512 f) ∗ (oP c (1024 * (lf c).val) 512 f ∗ oP c (1024 * (lf c).val + 512) 512 f)
      ∗ (oP c (1024 * (rt c).val) 512 f ∗ oP c (1024 * (rt c).val + 512) 512 f)
      ∗ (oP c (1024 * (op c).val) 256 f ∗ oP c (1024 * (op c).val + 256) 256 f ∗ oP c (1024 * (op c).val + 512) 256 f ∗ oP c (1024 * (op c).val + 768) 256 f))
    ⊢ (((c : Thread nD τ).loc main_v1) ↦{fullShare} f : sProp 𝕄) := by
  rw [o_dev c f]
  iintro ⟨H0, H1, H2, H3, H4, H5, H6⟩
  isplitl [H0]; · iapply (oP_split (F := F) c (1024 * c.val) 512 512 f).2; iexact H0
  isplitl [H1]; · iapply (oP_split (F := F) c (1024 * (lf c).val) 512 512 f).2; iexact H1
  isplitl [H2]; · iapply (oP_split (F := F) c (1024 * (rt c).val) 512 512 f).2; iexact H2
  ihave H := (oP_split (F := F) c (1024 * (op c).val) 256 256 f).2 $$ [$H3 $H4]
  ihave H := (oP_split (F := F) c (1024 * (op c).val) 512 256 f).2 $$ [$H $H5]
  iapply (oP_split (F := F) c (1024 * (op c).val) 768 256 f).2
  isplitl [H]; · iexact H
  iexact H6

end Cert.Ag

end
-- ==== Proof.Gear.lean ====
/-
The positions, duties and credits a device starts with, one by one.
-/
module

public import proofs.«01_k».proof.Proof.Ends

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- `c` is at the start of its cell `k`. -/
abbrev ps (c : Dev nD) (k : Cl) : sProp 𝕄 := atPos ER (cell c k) 0 ∅ 0
/-- The credit `c` waits on its cell `k` with. -/
abbrev cr (c : Dev nD) (k : Cl) : sProp 𝕄 := cred (tallyAt (cell c k) () (amt k))

/-- The duties: every cell's first, and the barrier's second. -/
def dutyOf (j : Fin 20) : Cl × Bool := if h : j.val < 19 then (⟨j.val, h⟩, false) else (bar, true)
/-- Whose duty `c` does. -/
def turn : Fin 20 → Dev nD ≃ Dev nD :=
  ![ring, ring.symm, ring, Equiv.refl _, Equiv.refl _, Equiv.refl _, Equiv.refl _, Equiv.refl _, Equiv.refl _, Equiv.refl _, Equiv.refl _,
    ring, ring, ring.symm, ring.symm, ring, ring, ring.symm, ring.symm, ring.symm]

/-- The positions of `c` at its cells. -/
def pos (c : Dev nD) : sProp 𝕄 := bigSep Finset.univ fun k : Cl => ps (F := F) c k
/-- The duties `c` does. -/
def dues (c : Dev nD) : sProp 𝕄 := bigSep Finset.univ fun j : Fin 20 => tok (F := F) (turn j c) (dutyOf j).1 (dutyOf j).2
/-- The counters of `c`'s shared cells at zero. -/
def zeros (c : Dev nD) : sProp 𝕄 := bigSep Finset.univ fun k : Cl => zero (F := F) c k
/-- The credits `c` waits with on what others owe. -/
def creds (c : Dev nD) : sProp 𝕄 :=
  iprop(cred (tallyAt (cell c bar) () 2) ∗ cr (F := F) c cbr ∗ cr (F := F) c cbl ∗ cr (F := F) c (rcv 0) ∗ cr (F := F) c (rcv 1) ∗ cr (F := F) c (rcv 2) ∗ cr (F := F) c (rcv 3) ∗ cr (F := F) c (rcv 4) ∗ cr (F := F) c (rcv 5) ∗ cr (F := F) c (rcv 6) ∗ cr (F := F) c (rcv 7))

/-- Nineteen parts, one by one. -/
theorem bigSep_fin19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
/-- Twenty parts, one by one. -/
theorem bigSep_fin20 (Φ : Fin 20 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The positions, one by one. -/
theorem pos_eq (c : Dev nD) : pos (F := F) c = iprop(ps c bar ∗ ps c cbr ∗ ps c cbl ∗ ps c (snd 0) ∗ ps c (snd 1) ∗ ps c (snd 2) ∗ ps c (snd 3) ∗ ps c (snd 4) ∗ ps c (snd 5) ∗ ps c (snd 6) ∗ ps c (snd 7) ∗ ps c (rcv 0) ∗ ps c (rcv 1) ∗ ps c (rcv 2) ∗ ps c (rcv 3) ∗ ps c (rcv 4) ∗ ps c (rcv 5) ∗ ps c (rcv 6) ∗ ps c (rcv 7)) := by
  unfold pos; exact bigSep_fin19 _
/-- The counters, one by one. -/
theorem zeros_eq (c : Dev nD) : zeros (F := F) c = iprop(zero c bar ∗ zero c cbr ∗ zero c cbl ∗ zero c (snd 0) ∗ zero c (snd 1) ∗ zero c (snd 2) ∗ zero c (snd 3) ∗ zero c (snd 4) ∗ zero c (snd 5) ∗ zero c (snd 6) ∗ zero c (snd 7) ∗ zero c (rcv 0) ∗ zero c (rcv 1) ∗ zero c (rcv 2) ∗ zero c (rcv 3) ∗ zero c (rcv 4) ∗ zero c (rcv 5) ∗ zero c (rcv 6) ∗ zero c (rcv 7)) := by
  unfold zeros; exact bigSep_fin19 _
/-- The tokens a device pays with, one by one. -/
theorem dues_eq (c : Dev nD) : dues (F := F) c = iprop(tok (rt c) bar false ∗ tok (lf c) cbr false ∗ tok (rt c) cbl false ∗ tok c (snd 0) false ∗ tok c (snd 1) false ∗ tok c (snd 2) false ∗ tok c (snd 3) false ∗ tok c (snd 4) false ∗ tok c (snd 5) false ∗ tok c (snd 6) false ∗ tok c (snd 7) false ∗ tok (rt c) (rcv 0) false ∗ tok (rt c) (rcv 1) false ∗ tok (lf c) (rcv 2) false ∗ tok (lf c) (rcv 3) false ∗ tok (rt c) (rcv 4) false ∗ tok (rt c) (rcv 5) false ∗ tok (lf c) (rcv 6) false ∗ tok (lf c) (rcv 7) false ∗ tok (lf c) bar true) := by
  unfold dues; exact bigSep_fin20 _

/-- A cell that is waited on: its position and its credit. -/
theorem rdy_intro (c : Dev nD) (k : Cl) : iprop(ps (F := F) c k ∗ cr (F := F) c k) ⊢ rdy (F := F) c k := by unfold rdy; exact .rfl
/-- A cell that a device's own copy pays to: its position and its token. -/
theorem tk_intro (c : Dev nD) (k : Cl) : iprop(ps (F := F) c k ∗ tok (F := F) c k false) ⊢ tk (F := F) c k := by unfold tk; exact .rfl

/-- What a device starts with, one by one. -/
def gear (c : Dev nD) : sProp 𝕄 :=
  iprop((tok (lf c) bar true ∗ tok (rt c) bar false ∗ ps c bar ∗ cred (tallyAt (cell c bar) () 2))
        ∗ (tok (lf c) cbr false ∗ rdy c cbr ∗ tok (rt c) cbl false ∗ rdy c cbl)
        ∗ (tk c (snd 0) ∗ tk c (snd 1) ∗ tk c (snd 2) ∗ tk c (snd 3) ∗ tk c (snd 4) ∗ tk c (snd 5) ∗ tk c (snd 6) ∗ tk c (snd 7))
        ∗ (tok (rt c) (rcv 0) false ∗ tok (rt c) (rcv 1) false ∗ tok (lf c) (rcv 2) false ∗ tok (lf c) (rcv 3) false ∗ tok (rt c) (rcv 4) false ∗ tok (rt c) (rcv 5) false ∗ tok (lf c) (rcv 6) false ∗ tok (lf c) (rcv 7) false)
        ∗ (rdy c (rcv 0) ∗ rdy c (rcv 1) ∗ rdy c (rcv 2) ∗ rdy c (rcv 3) ∗ rdy c (rcv 4) ∗ rdy c (rcv 5) ∗ rdy c (rcv 6) ∗ rdy c (rcv 7)))

/-- What a device starts with, cell by cell. -/
theorem gear_intro (c : Dev nD) : iprop(pos (F := F) c ∗ dues (F := F) c ∗ creds (F := F) c) ⊢ gear (F := F) c := by
  rw [pos_eq, dues_eq]
  unfold creds gear
  iintro ⟨⟨P0, P1, P2, P3, P4, P5, P6, P7, P8, P9, P10, P11, P12, P13, P14, P15, P16, P17, P18⟩, ⟨T0, T1, T2, T3, T4, T5, T6, T7, T8, T9, T10, T11, T12, T13, T14, T15, T16, T17, T18, T19⟩, ⟨C0, C1, C2, C3, C4, C5, C6, C7, C8, C9, C10⟩⟩
  isplitl [T19 T0 P0 C0]
  · iframe T19 T0 P0 C0
  isplitl [T1 P1 C1 T2 P2 C2]
  · ihave R1 := (rdy_intro (F := F) c cbr) $$ [$P1 $C1]
    ihave R2 := (rdy_intro (F := F) c cbl) $$ [$P2 $C2]
    iframe T1 R1 T2 R2
  isplitl [P3 T3 P4 T4 P5 T5 P6 T6 P7 T7 P8 T8 P9 T9 P10 T10]
  · isplitl [P3 T3]; · iapply tk_intro; iframe P3 T3
    isplitl [P4 T4]; · iapply tk_intro; iframe P4 T4
    isplitl [P5 T5]; · iapply tk_intro; iframe P5 T5
    isplitl [P6 T6]; · iapply tk_intro; iframe P6 T6
    isplitl [P7 T7]; · iapply tk_intro; iframe P7 T7
    isplitl [P8 T8]; · iapply tk_intro; iframe P8 T8
    isplitl [P9 T9]; · iapply tk_intro; iframe P9 T9
    iapply tk_intro; iframe P10 T10
  isplitl [T11 T12 T13 T14 T15 T16 T17 T18]
  · iframe T11 T12 T13 T14 T15 T16 T17 T18
  isplitl [P11 C3]; · iapply rdy_intro; iframe P11 C3
  isplitl [P12 C4]; · iapply rdy_intro; iframe P12 C4
  isplitl [P13 C5]; · iapply rdy_intro; iframe P13 C5
  isplitl [P14 C6]; · iapply rdy_intro; iframe P14 C6
  isplitl [P15 C7]; · iapply rdy_intro; iframe P15 C7
  isplitl [P16 C8]; · iapply rdy_intro; iframe P16 C8
  isplitl [P17 C9]; · iapply rdy_intro; iframe P17 C9
  iapply rdy_intro; iframe P18 C10

end Cert.Ag

end
-- ==== Proof.Body.lean ====
/-
The program on one device: its parts one after the other.
-/
module

public import proofs.«01_k».proof.Proof.Gear

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : Dev nD × Cl → ℕ)

/-- A program is its first part, then the rest. -/
theorem st_bind {α β : Type} (c : Dev nD) (p : Prog (TpuEff nD τ sig (Elt F) Λ₀ .tc) β) (k : β → Prog (TpuEff nD τ sig (Elt F) Λ₀ .tc) α)
    {Q : α → sProp (MT nD τ sig Unit (Elt F) ℕ UU ℕ)} : WP c p (fun a => WP c (k a) Q) ⊢ WP c (p >>= k) Q := by
  unfold WP; rw [wp_bind]

/-- The first part finds which device runs. -/
theorem part1 (c : Dev nD) {Q : (Σ' (_ : Dev nD) (_ : BitVec 32) (_ : BitVec 32) (_ : BitVec 32), BitVec 32) → sProp 𝕄} :
    iprop(∀ a b d e, Q ⟨c, a, b, d, e⟩) ⊢ WP c (at_ops (k0_part1 (F := F))) Q := by
  simp only [at_ops, k0_part1_eq_skeleton]
  unfold k0_part1_skel
  simp only [Prog.lift, Prog.bind_op, Prog.bind_ret, Prog.pure_eq_ret, WP, wp_deviceId]
  iintro HQ
  iapply st_ret
  iapply HQ

/-- What the program leaves. -/
def left (c : Dev nD) : sProp 𝕄 :=
  iprop(ow (F := F) c [] ∗ zeros (F := F) c ∗ (lz (F := F) c smW ∗ lz (F := F) c (smG 0) ∗ lz (F := F) c (smG 1))
    ∗ (((c : Thread nD τ).loc cc0_stg0_0) ↦{fullShare} (xs m c)) ∗ (∃ f, ((c : Thread nD τ).loc cc0_scratch0) ↦{fullShare} f)
    ∗ (∃ f, ((c : Thread nD τ).loc cc0_scratch1) ↦{fullShare} f) ∗ (∃ f, ((c : Thread nD τ).loc cc0_scratch2) ↦{fullShare} f)
    ∗ (∃ f, ((c : Thread nD τ).loc cc0_scratch3) ↦{fullShare} f) ∗ wArg m c ∗ (((c : Thread nD τ).loc main_v1) ↦{fullShare} (outF m c)))

set_option maxHeartbeats 2000000 in
/-- The program on device `c`, from what it starts with to what it leaves. -/
theorem body_run (c : Dev nD) {Q : PUnit → sProp 𝕄} :
    iprop(recs m κ ∗ ow c (dl c 0) ∗ gear (F := F) c ∗ (lz (F := F) c smW ∗ lz (F := F) c (smG 0) ∗ lz (F := F) c (smG 1))
      ∗ (((c : Thread nD τ).loc cc0_stg0_0) ↦{fullShare} (xs m c)) ∗ (∃ f, ((c : Thread nD τ).loc cc0_scratch0) ↦{fullShare} f)
      ∗ (∃ f, ((c : Thread nD τ).loc cc0_scratch1) ↦{fullShare} f) ∗ (∃ f, ((c : Thread nD τ).loc cc0_scratch2) ↦{fullShare} f)
      ∗ (∃ f, ((c : Thread nD τ).loc cc0_scratch3) ↦{fullShare} f) ∗ wArg m c ∗ (∃ f, ((c : Thread nD τ).loc main_v1) ↦{fullShare} f))
    ⊢ iprop((left m c -∗ Q ⟨⟩) -∗ WP c (at_ops (cc0_body (F := F))) Q) := by
  iintro ⟨#HR, Ho, HG, ⟨HzW, HzA, HzB⟩, Hx, Hc, Hb, Hs, Hg, Hw, HO⟩ HQ
  unfold gear
  icases HG with ⟨⟨TBl, TBr, PB, CB⟩, ⟨Tcr, Rcr, Tcl, Rcl⟩, ⟨K0, K1, K2, K3, K4, K5, K6, K7⟩, ⟨T0, T1, T2, T3, T4, T5, T6, T7⟩, ⟨R0, R1, R2, R3, R4, R5, R6, R7⟩⟩
  ihave ⟨⟨XA0, XA1⟩, ⟨XB0, XB1⟩, ⟨XK0, XK1⟩⟩ := (x_in (F := F) c (xs m c)) $$ Hx
  ihave ⟨C0, C1⟩ := (c_in (F := F) c) $$ Hc
  ihave ⟨G0, G1⟩ := (g_in (F := F) c) $$ Hg
  ihave ⟨B0, B1, B2, B3⟩ := (b_in (F := F) c) $$ Hb
  ihave ⟨⟨O0, O1⟩, ⟨OL0, OL1⟩, ⟨OR0, OR1⟩, ⟨P0, P1, P2, P3⟩⟩ := (o_in (F := F) c) $$ HO
  simp only [at_ops, cc0_body_eq_skeleton]
  unfold cc0_body_skel
  iapply st_bind
  iapply (part1 c)
  iintro %v2 %v13 %v24 %v35
  dsimp only
  iapply st_bind
  iapply (part2 m κ c v13 v24) $$ [$HR $Ho $TBl $TBr $C0 $C1 $PB $CB $XA0 $XA1 $K0 $K1 $T0 $T1]
  iintro %r ⟨ZB, CL0, CL1, D0, D1, Ho⟩
  iapply st_bind
  iapply (part3 m κ c v13 _ _) $$ [$HR $Ho $CL0 $CL1 $XB0 $XB1 $K2 $K3 $T2 $T3 $Hw $Hs $HzW $B0]
  iintro ⟨D2, D3, Ho, Hw, HzW, B0, Hs⟩
  iapply st_bind
  iapply (part4 m κ c v2) $$ [$HR $Ho $Hw $HzW $B0 $B1 $B2 $B3 $Hs $XK0 $G0]
  iintro %u ⟨Ho, Hw, HzW, Hb, Hs, XK0, G0⟩
  dsimp only
  iapply st_bind
  iapply (part5 m c v2 v24 u) $$ [$G0 $G1 $O0 $O1 $HzA $HzB $XK1 $Hb]
  iintro ⟨F0, F1, XK1, Hb⟩
  iapply st_bind
  iapply (part6 m κ c v13) $$ [$HR $Ho $R0 $R2 $F0 $Hb]
  iintro ⟨Ho, Z0, Z2, C0, C1, O0, G0, HzA, Hb⟩
  iapply st_bind
  iapply (part7 m κ c v13 v24) $$ [$HR $Ho $C1 $G0 $HzA $OL0 $OR0 $F1 $Hb $Tcr $Rcr]
  iintro %r' ⟨Ho, F0, F1, O1, Hb, Zcr, CR⟩
  iapply st_bind
  iapply (part8 m κ c v13 v24 _ _) $$ [$HR $Ho $C0 $CR $K4 $K5 $T4 $T5 $R1]
  iintro ⟨Ho, D4, D5, Z1, C0⟩
  iapply st_bind
  iapply (part9 m κ c v13 v24) $$ [$HR $Ho $R3 $C0 $F0 $OL1 $Hb $Tcl]
  iintro ⟨Ho, Z3, C1, OL0, F0, Hb⟩
  iapply st_bind
  iapply (part10 m κ c v13 v24) $$ [$HR $Ho $Rcl $C1 $K6 $K7 $T6 $T7]
  iintro ⟨Ho, Zcl, D6, D7, CH⟩
  iapply st_bind
  iapply (part11 m κ c v24 v35) $$ [$HR $Ho $F1 $OR1 $Hb $R4]
  iintro ⟨Ho, OR0, F1, Hb, Z4, C4⟩
  iapply st_bind
  iapply (part12 m κ c v24 v35) $$ [$HR $Ho $F0 $P0 $Hb $R5]
  iintro ⟨Ho, OL1, F0, Hb, Z5, C5, G0⟩
  iapply st_bind
  iapply (part13 m κ c v13 v35) $$ [$HR $Ho $F1 $P1 $Hb $R6]
  iintro ⟨Ho, OR1, F1, Hb, Z6, C6, G1⟩
  iapply st_bind
  iapply (part14 m κ c v13) $$ [$HR $Ho $F0 $P2 $Hb $R7]
  iintro ⟨Ho, P0, F0, Hb, Z7, C7⟩
  dsimp only
  iapply st_bind
  iapply (part15 m κ c v35 _) $$ [$HR $Ho $F1 $F0 $P3 $Hb]
  iintro ⟨Ho, P1, P2, F1, GA, HzA, Hb⟩
  iapply st_bind
  iapply (part16 m κ c) $$ [$HR $Ho $F1 $D0 $D1 $D2 $D3]
  iintro ⟨Ho, P3, GB, HzB, Y0, Y1, Y2, Y3, XA0, XA1, XB0, XB1⟩
  iapply st_bind
  iapply (part17 m κ c) $$ [$HR $Ho $D4 $D5 $D6]
  iintro %r'' ⟨Ho, Y4, Y5, Y6, S4, S5, S6⟩
  simp only [Prog.lift, Prog.bind_op, Prog.bind_ret, Prog.pure_eq_ret]
  iapply (take_Q m κ c (snd 7) (by decide) (dl c 12) (above c 12 (by decide)) (cP c fullShare.left 1 768 256 (L0 m c)) rfl rfl rfl) $$ [$HR $D7 $Ho]
  iintro ⟨Y7, S7, Ho⟩
  iapply st_ret
  iapply HQ
  unfold left
  isplitl [Ho]; · iexact Ho
  isplitl [ZB Zcr Zcl Y0 Z0 Y1 Z1 Y2 Z2 Y3 Z3 Y4 Z4 Y5 Z5 Y6 Z6 Y7 Z7]
  · rw [zeros_eq]
    iframe ZB Zcr Zcl Y0 Y1 Y2 Y3 Y4 Y5 Y6 Y7 Z0 Z1 Z2 Z3 Z4 Z5 Z6 Z7
  isplitl [HzW HzA HzB]
  · iframe HzW HzA HzB
  isplitl [XA0 XA1 XB0 XB1 XK0 XK1]
  · iapply (x_out (F := F) c (xs m c))
    iframe XA0 XA1 XB0 XB1 XK0 XK1
  isplitl [S4 S5 S6 S7 C4 C5 C6 C7 CH]
  · iapply (c_out m c)
    iframe S4 S5 S6 S7 C4 C5 C6 C7 CH
  isplitl [Hb]; · iexists _; iexact Hb
  isplitl [Hs]; · iexact Hs
  isplitl [G0 G1 GA GB]
  · iapply (g_out (F := F) c)
    iframe G0 G1 GA GB
  isplitl [Hw]; · iexact Hw
  iapply (o_out (F := F) c (outF m c))
  iframe O0 O1 OL0 OL1 OR0 OR1 P0 P1 P2 P3

end Cert.Ag

end
-- ==== Proof.Fund.lean ====
/-
What the launch element deals to the devices, and how the counters at zero become the shared cells.
-/
module

public import proofs.«01_k».proof.Proof.Body

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the duties of all devices -/

/-- A device's cell, as a pair. -/
abbrev cellp (p : Dev nD × Cl) : GSem nD τ sig := cell p.1 p.2

/-- Different places have different cells. -/
theorem cellp_injective : Function.Injective cellp := fun p p' h =>
  Prod.ext (congrArg (fun g : GSem nD τ sig => g.1.1) h) (csem_injective (congrArg Prod.snd h))

/-- The duties of one device are listed once each. -/
theorem dutyOf_injective : Function.Injective dutyOf := by decide

/-- A duty of a device's own cells. -/
abbrev dutyp (p : Dev nD × Fin 20) : GSem nD τ sig × ℕ × Bool := (cell p.1 (dutyOf p.2).1, 0, (dutyOf p.2).2)

/-- The duties of all devices are listed once each. -/
theorem dutyp_injective : Function.Injective dutyp := fun p p' h => by
  have hc := cellp_injective (a₁ := (p.1, (dutyOf p.2).1)) (a₂ := (p'.1, (dutyOf p'.2).1)) (congrArg Prod.fst h)
  have hb : (dutyOf p.2).2 = (dutyOf p'.2).2 := congrArg (fun x : GSem nD τ sig × ℕ × Bool => x.2.2) h
  exact Prod.ext (congrArg (fun x : Dev nD × Cl => x.1) hc) (dutyOf_injective (Prod.ext (congrArg (fun x : Dev nD × Cl => x.2) hc) hb))

/-- The shared cells of all devices. -/
def allCells : Finset (GSem nD τ sig) := Finset.univ.map ⟨cellp, cellp_injective⟩
/-- Their duties. -/
def allDuties : Finset (GSem nD τ sig × ℕ × Bool) := Finset.univ.map ⟨dutyp, dutyp_injective⟩

/-- The launch element. -/
def launchElt : UU := (initOf (Pipeline.cells cfgs cellOf_inj) (Pipeline.launchToks cfgs cellOf_inj), (initOf allCells allDuties, 1))

/-- What the launch element deals device `c`: the state of its cells, where it stands in each, and the duties of its own cells. -/
def dealt (c : Dev nD) : sProp 𝕄 :=
  iprop((bigSep Finset.univ fun k : Cl => roundState ER (sched m) (cell c k) 0)
    ∗ ((bigSep Finset.univ fun k : Cl => ps (F := F) c k) ∗ (bigSep Finset.univ fun k : Cl => reached ER (cell c k) 0))
    ∗ bigSep Finset.univ fun j : Fin 20 => tok (F := F) c (dutyOf j).1 (dutyOf j).2)

/-- What is said of all cells is said device by device. -/
theorem over_cells (Φ : GSem nD τ sig → sProp 𝕄) :
    bigSep allCells Φ = bigSep Finset.univ fun c : Dev nD => bigSep Finset.univ fun k : Cl => Φ (cell c k) := by
  unfold allCells; rw [bigSep_map, bigSep_univ_prod]; rfl
/-- The tokens of all duties, device by device. -/
theorem over_duties : bigSep allDuties (fun x => (dutyTok ER x.1 x.2.1 x.2.2 : sProp 𝕄))
    = bigSep Finset.univ fun c : Dev nD => bigSep Finset.univ fun j : Fin 20 => tok (F := F) c (dutyOf j).1 (dutyOf j).2 := by
  unfold allDuties; rw [bigSep_map, bigSep_univ_prod]; rfl

/-- The launch's element is dealt out: every device gets its cells' first rounds, its positions and the tokens of its duties. -/
theorem deal : BI.own (ER (initOf allCells allDuties)) ⊢ (|==> bigSep Finset.univ (dealt m) : sProp 𝕄) := by
  iintro H
  imod (Rounds.fund ER (sched m) allCells allDuties) $$ H with ⟨Hs, Hr, Hp, Ht⟩
  imodintro
  ihave Hs := (Entails.of_eq (over_cells fun g => roundState ER (sched m) g 0)) $$ Hs
  ihave Hp := (Entails.of_eq (over_cells fun g => atPos ER g 0 ∅ 0)) $$ Hp
  ihave Hr := (Entails.of_eq (over_cells fun g => reached ER g 0)) $$ Hr
  ihave Ht := (Entails.of_eq over_duties) $$ Ht
  unfold dealt
  simp only [bigSep_sep']
  iframe Hs Hp Hr Ht

/-! ## The counters -/

/-- The kernel's own semaphores: the shared cells but the barrier, and those of the local copies. -/
def osem (k : Fin 21) : SemLoc sig := if h : k.val < 18 then csem ⟨k.val + 1, by omega⟩ else .dma (⟨k.val - 1, by have := k.isLt; show k.val - 1 < 20; omega⟩ : Fin 20)

/-- The kernel's own semaphores are listed once each, apart from the staging one. -/
theorem ownSemFacts : Pipeline.OwnSemFacts cfg0.spec osem := by decide

/-- The counters of the local copies. -/
abbrev locals (c : Dev nD) : sProp 𝕄 := iprop(lz (F := F) c smW ∗ lz (F := F) c (smG 0) ∗ lz (F := F) c (smG 1))

/-- The counters of the kernel's own semaphores, one by one. -/
theorem own_counters (c : Dev nD) : (Pipeline.ownSems0 (Ix := Unit) (Name := ℕ) (U := UU) (Lvl := ℕ) (Val := Elt F) (τ := τ) osem c : sProp 𝕄)
    = iprop(zero c cbr ∗ zero c cbl ∗ zero c (snd 0) ∗ zero c (snd 1) ∗ zero c (snd 2) ∗ zero c (snd 3) ∗ zero c (snd 4) ∗ zero c (snd 5) ∗ zero c (snd 6) ∗ zero c (snd 7) ∗ zero c (rcv 0) ∗ zero c (rcv 1) ∗ zero c (rcv 2) ∗ zero c (rcv 3) ∗ zero c (rcv 4) ∗ zero c (rcv 5) ∗ zero c (rcv 6) ∗ zero c (rcv 7) ∗ locals c) := by
  rw [Pipeline.ownSems0_eq_of_list c osem [0, 1, 2, 3, 4, 5, 6, 7, 8, 9, 10, 11, 12, 13, 14, 15, 16, 17, 18, 19, 20] (by decide) (by decide)]; rfl
/-- The one counter beside them is the barrier's. -/
theorem barrier_counter (c : Dev nD) : (unscopedSems0 c : sProp 𝕄) = zero c bar := by
  unfold unscopedSems0; rw [bigSep_eq_bigSepL_of_eq [csem bar] (by decide) (by decide)]; rfl

/-- The launch's counters are those of the shared cells and of the local copies; -/
theorem counters_in (c : Dev nD) :
    iprop(Pipeline.ownSems0 (Ix := Unit) (Name := ℕ) (U := UU) (Lvl := ℕ) (Val := Elt F) (τ := τ) osem c ∗ unscopedSems0 c)
      ⊢ (iprop(zeros c ∗ locals c) : sProp 𝕄) := by
  rw [own_counters, barrier_counter, zeros_eq]
  iintro ⟨⟨A1, A2, A3, A4, A5, A6, A7, A8, A9, A10, A11, A12, A13, A14, A15, A16, A17, A18, AL⟩, A0⟩
  isplitr [AL]
  · iframe A0 A1 A2 A3 A4 A5 A6 A7 A8 A9 A10 A11 A12 A13 A14 A15 A16 A17 A18
  iexact AL
/-- and they are given back as they came. -/
theorem counters_out (c : Dev nD) : (iprop(zeros c ∗ locals c) : sProp 𝕄)
      ⊢ iprop(unscopedSems0 c ∗ Pipeline.ownSems0 (Ix := Unit) (Name := ℕ) (U := UU) (Lvl := ℕ) (Val := Elt F) (τ := τ) osem c) := by
  rw [own_counters, barrier_counter, zeros_eq]
  iintro ⟨⟨A0, A1, A2, A3, A4, A5, A6, A7, A8, A9, A10, A11, A12, A13, A14, A15, A16, A17, A18⟩, AL⟩
  isplitl [A0]; · iexact A0
  iframe A1 A2 A3 A4 A5 A6 A7 A8 A9 A10 A11 A12 A13 A14 A15 A16 A17 A18
  iexact AL

/-! ## The cells opened on all devices -/

/-- A cell known by some name. -/
abbrev named (c : Dev nD) (k : Cl) : sProp 𝕄 := iprop(∃ n : ℕ, cellInv ER (sched m) n (cell c k))

/-- A device's shared cells become invariants. -/
theorem open_cells (c : Dev nD) : iprop(zeros (F := F) c ∗ bigSep Finset.univ fun k : Cl => roundState ER (sched m) (cell c k) 0)
    ⊢ (|={Set.univ}=> bigSep Finset.univ fun k : Cl => named m c k : sProp 𝕄) := by
  unfold zeros
  rw [← bigSep_sep']
  exact (bigSep_mono fun k _ => (Rounds.body_intro ER (sched m) (cell c k)).trans inv_alloc).trans (bigSep_fupd _ _)

/-- One device's share of the launch: its cells opened, where it stands, the duties of its own cells, the local counters. -/
def opened (c : Dev nD) : sProp 𝕄 :=
  iprop((bigSep Finset.univ fun k : Cl => named m c k)
    ∗ (bigSep Finset.univ fun k : Cl => reached ER (cell c k) 0)
    ∗ pos (F := F) c ∗ (bigSep Finset.univ fun j : Fin 20 => tok (F := F) c (dutyOf j).1 (dutyOf j).2) ∗ locals (F := F) c)

/-- A device's counters and its share of the launch's element make its cells' invariants. -/
theorem open_device (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt
  iintro ⟨Ho, Hu, Hs, ⟨Hp, Hr⟩, Ht⟩
  ihave ⟨Hz, Hl⟩ := (counters_in (F := F) c) $$ [$Ho $Hu]
  imod (open_cells m c) $$ [$Hz $Hs] with Hn
  imodintro
  unfold opened pos
  iframe Hn Hr Hp Ht Hl

/-- The cells of all devices known by the names `κ`, each in its round 0. -/
def known (κ : Dev nD × Cl → ℕ) : sProp 𝕄 :=
  iprop((bigSep Finset.univ fun p : Dev nD × Cl => cellInv ER (sched m) (κ p) (cell p.1 p.2))
    ∗ bigSep Finset.univ fun p : Dev nD × Cl => reached ER (cell p.1 p.2) 0)

instance known_persistent (κ : Dev nD × Cl → ℕ) : BI.Persistent (known (F := F) m κ) := by unfold known; infer_instance

/-- One cell's invariant out of all. -/
theorem known_inv (κ : Dev nD × Cl → ℕ) (p : Dev nD × Cl) :
    (bigSep Finset.univ fun p : Dev nD × Cl => (cellInv ER (sched m) (κ p) (cell p.1 p.2) : sProp 𝕄)) ⊢ cellInv ER (sched m) (κ p) (cell p.1 p.2) :=
  bigSep_elim (Finset.mem_univ p)
/-- One cell's record that its round is reached out of all. -/
theorem known_reached (p : Dev nD × Cl) :
    (bigSep Finset.univ fun p : Dev nD × Cl => (reached ER (cell p.1 p.2) 0 : sProp 𝕄)) ⊢ reached ER (cell p.1 p.2) 0 :=
  bigSep_elim (Finset.mem_univ p)

/-- What is known of all cells, as the records of the body. -/
theorem recs_intro (κ : Dev nD × Cl → ℕ) : iprop(known (F := F) m κ ∗ levAts L lv) ⊢ recs m κ := by
  unfold known recs
  iintro ⟨⟨#HI, #HR⟩, #HL⟩
  isplitr
  · iintro %p
    iapply (known_inv m κ p); iexact HI
  isplitr
  · iintro %p
    iapply (known_reached p); iexact HR
  iexact HL

/-- The duties of every device's cells are, dealt around, the duties every device does. -/
theorem dues_around : (bigSep Finset.univ fun c : Dev nD => bigSep Finset.univ fun j : Fin 20 => tok (F := F) c (dutyOf j).1 (dutyOf j).2)
    = bigSep Finset.univ fun c : Dev nD => dues (F := F) c := by
  unfold dues
  rw [Pipeline.bigSep_univ_comm, Pipeline.bigSep_univ_comm (fun (c : Dev nD) (j : Fin 20) => tok (F := F) (turn j c) (dutyOf j).1 (dutyOf j).2)]
  exact bigSep_congr fun j _ => bigSep_univ_equiv (turn j) fun c : Dev nD => tok (F := F) c (dutyOf j).1 (dutyOf j).2

/-- What a device's run starts from. -/
def armed (c : Dev nD) : sProp 𝕄 := iprop(∃ κ, known m κ ∗ pos (F := F) c ∗ dues (F := F) c ∗ locals (F := F) c)

/-- What is known is given to every device. -/
theorem share_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  iintro ⟨HR, H⟩
  ihave HR := (BI.bigSep_of_persistent (Finset.univ : Finset (Dev nD)) R) $$ HR
  iapply (show (bigSep Finset.univ fun c : Dev nD => iprop(R ∗ Φ c)) ⊢ bigSep Finset.univ Ψ from bigSep_mono fun c _ => h c)
  rw [bigSep_sep']
  iframe HR H

/-- Once every device's cells are invariants, every device gets all the records and the tokens it pays with. -/
theorem arm : (bigSep Finset.univ (opened m) : sProp 𝕄) ⊢ bigSep Finset.univ (armed m) := by
  unfold opened
  simp only [bigSep_sep']
  iintro ⟨HI, HR, HP, HT, HW, HA, HB⟩
  ihave HI := (Entails.of_eq (bigSep_univ_prod (fun p : Dev nD × Cl => named (F := F) m p.1 p.2)).symm) $$ HI
  ihave ⟨%κ, #HI⟩ := (BI.bigSep_exists_pi Finset.univ (fun (p : Dev nD × Cl) (n : ℕ) => (cellInv ER (sched m) n (cell p.1 p.2) : sProp 𝕄))) $$ HI
  ihave #HR := (Entails.of_eq (bigSep_univ_prod (fun p : Dev nD × Cl => (reached ER (cell p.1 p.2) 0 : sProp 𝕄))).symm) $$ HR
  ihave HT := (Entails.of_eq (dues_around (F := F))) $$ HT
  iapply (share_known (R := known m κ) (Φ := fun c => iprop(pos (F := F) c ∗ dues (F := F) c ∗ locals (F := F) c)) fun c => by
    unfold armed
    iintro ⟨#HK, H⟩
    iexists κ
    isplitr; · iexact HK
    iexact H)
  isplitr
  · unfold known
    isplitr; · iexact HI
    iexact HR
  simp only [bigSep_sep']
  iframe HP HT HW HA HB

/-- The cells of all devices opened at once, every device armed. -/
theorem arm_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (armed m) :=
  ((bigSep_mono fun c _ => open_device m c).trans (bigSep_fupd _ _)).trans (BI.fupd_mono (arm m))

end Cert.Ag

end
-- ==== Proof.Launch.lean ====
/-
The launch: the four devices started together, and what every run ends in.
-/
module

public import proofs.«01_k».proof.Proof.Fund

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The credits at launch -/

/-- Who each debt is owed to, and at which of their cells. -/
def dueTo : List ((Dev nD ≃ Dev nD) × Cl) :=
  [(ring.symm, bar), (ring, bar), (ring, rcv 0), (ring, rcv 1), (ring.symm, rcv 2), (ring.symm, rcv 3), (ring.symm, cbr), (ring, rcv 4), (ring, rcv 5),
   (ring, cbl), (ring.symm, rcv 6), (ring.symm, rcv 7)]

/-- The credits of `c` for the debts of a list. -/
def credL (c : Dev nD) : List ((Dev nD ≃ Dev nD) × Cl) → sProp 𝕄
  | [] => iprop(emp)
  | x :: l => iprop(credL c l ∗ cr (F := F) c x.2)

/-- Debts every device owes along rotations are credits of every device. -/
theorem credL_intro (c : Dev nD) (l : List ((Dev nD ≃ Dev nD) × Cl)) :
    (Pipeline.launchCred (fun d => oweL (l.map fun x => (x.1 d, x.2))) c : sProp 𝕄) ⊢ credL c l := by
  induction l with
  | nil => exact Entails.of_eq (Pipeline.launchCred_zero c)
  | cons x l ih =>
    show (Pipeline.launchCred (fun d => oweL (l.map fun x => (x.1 d, x.2)) + tallyAt (cell (x.1 d) x.2) () (amt x.2)) c : sProp 𝕄) ⊢ iprop(credL c l ∗ cr (F := F) c x.2)
    rw [Pipeline.launchCred_add]
    exact BI.sep_mono ih (Pipeline.launchCred_tallyAt (csem x.2) x.1 x.1.symm x.1.apply_symm_apply x.1.symm_apply_apply () (amt x.2) c)

/-- What the other devices owe a device, cell by cell. -/
theorem creds_intro (c : Dev nD) : (Pipeline.launchCred (fun d => oweL (debts d)) c : sProp 𝕄) ⊢ creds (F := F) c := by
  refine (show _ ⊢ credL (F := F) c dueTo from credL_intro c dueTo).trans ?_
  unfold dueTo creds
  simp only [credL]
  iintro ⟨⟨⟨⟨⟨⟨⟨⟨⟨⟨⟨⟨-, R7⟩, R6⟩, CL⟩, R5⟩, R4⟩, CR⟩, R3⟩, R2⟩, R1⟩, R0⟩, B1⟩, B0⟩
  isplitl [B0 B1]
  · rw [show (tallyAt (cell c bar) () 2 : CellTallies nD τ sig Unit) = tallyAt (cell c bar) () (amt bar) + tallyAt (cell c bar) () (amt bar) from (tallyAt_add (cell c bar) () 1 1).symm]
    iapply (cred_add _ _).2
    iframe B0 B1
  iframe CR CL R0 R1 R2 R3 R4 R5 R6 R7

/-! ## The launch's proof data -/

/-- What a device's run has at launch, its staging buffers and scratch aside. -/
def begun (c : Dev nD) : sProp 𝕄 :=
  iprop((∃ κ, recs m κ ∗ pos (F := F) c ∗ dues (F := F) c ∗ locals (F := F) c) ∗ creds (F := F) c ∗ wArg m c
    ∗ (∃ f, ((c : Thread nD τ).loc main_v1) ↦{fullShare} f))

/-- The scratch buffers, at some contents. -/
abbrev scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What the run leaves: the barrier's counter at zero, the weights as they were, the result computed. -/
def ended (c : Dev nD) : sProp 𝕄 :=
  iprop(unscopedSems0 c ∗ wArg m c ∗ (((c : Thread nD τ).loc main_v1) ↦{fullShare} (outF m c)))

/-- The proof data of the launch. -/
def dats (_ : Fin 1) (c : Dev nD) : Dat τ (Elt F) Unit ℕ UU ℕ cfg0 c where
  A w := m ((cfg0.win w).arr.view.loc (c : Thread nD τ))
  after w _ := match w with
    | ⟨0, _⟩ => xs m c
  Φ t := match t with
    | ⟨0, _⟩ => iprop(begun m c ∗ scratch (F := F) c)
    | ⟨_ + 1, _⟩ => iprop(ended m c ∗ Pipeline.ownSems0 (Ix := Unit) (Name := ℕ) (U := UU) (Lvl := ℕ) (Val := Elt F) (τ := τ) osem c ∗ scratch (F := F) c)
  q _ := fullShare
  owed t := match t with
    | ⟨0, _⟩ => oweL (debts c)
    | ⟨_ + 1, _⟩ => 0

/-- The block of `x` is fetched at the one point of the grid. -/
theorem fetch_x (t : Fin cfg0.N) : (cfg0.win (0 : Fin 1)).fetch t = true := by rw [fin_N0 t]; rfl

/-- A whole staging buffer with its contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16000 in
set_option maxHeartbeats 2000000 in
/-- The program meets the launch's obligation. -/
theorem body_meets (c : Dev nD) : BodyObligation (dats (F := F) m 0 c) (defs₀ (F := F)) 𝒱₀ () Set.univ := fun t => by
  rw [fin_N0 t, bigSep_W0, bigSep_W0]
  simp only [owns_stage]
  show iprop(((begun m c ∗ scratch (F := F) c)) ∗ (dats m 0 c).owesAt () t0_0.castSucc
      ∗ (∃ d, ∃ f : Buf (Elt F) (((c : Dev nD) : Thread nD τ).loc cc0_stg0_0), ⌜f = (dats m 0 c).before (0 : Fin 1) t0_0 d⌝ ∗ (((c : Thread nD τ).loc cc0_stg0_0) ↦{fullShare} f)))
    ⊢ WP c (at_ops (cc0_body (F := F))) (fun _ => iprop(((ended m c ∗ Pipeline.ownSems0 (Ix := Unit) (Name := ℕ) (U := UU) (Lvl := ℕ) (Val := Elt F) (τ := τ) osem c ∗ scratch (F := F) c)) ∗ (dats m 0 c).owesAt () t0_0.succ
      ∗ ∃ f : Buf (Elt F) (((c : Dev nD) : Thread nD τ).loc cc0_stg0_0), ⌜f = xs m c⌝ ∗ (((c : Thread nD τ).loc cc0_stg0_0) ↦{fullShare} f)))
  unfold Dat.owesAt Pipeline.owesWithin begun
  rw [show (dats m 0 c).owed t0_0.castSucc = oweL (debts c) from rfl, show (dats m 0 c).owed t0_0.succ = 0 from rfl]
  iintro ⟨⟨⟨⟨%κ, #HR, HP, HD, HL⟩, HC, Hw, Hv⟩, S0, S1, S2, S3⟩, ⟨%W, -, Ho⟩, %d, %f, %hf, Hx⟩
  have hx : (dats m 0 c).before (0 : Fin 1) t0_0 d = xs m c := by
    unfold Dat.before; rw [if_pos (fetch_x t0_0)]; rfl
  obtain rfl := hf.trans hx
  ihave HG := (gear_intro (F := F) c) $$ [$HP $HD $HC]
  iapply (body_run m κ c) $$ [HR Ho HG HL Hx S0 S1 S2 S3 Hw Hv]
  · isplitr; · iexact HR
    isplitl [Ho]; · unfold ow; iexists W; iexact Ho
    iframe HG HL Hx S0 S1 S2 S3 Hw Hv
  unfold left
  iintro ⟨Ho, Hz, HL, Hx, S0, S1, S2, S3, Hw, Hv⟩
  ihave ⟨HU, HO⟩ := (counters_out (F := F) c) $$ [$Hz $HL]
  isplitl [HU HO S0 S1 S2 S3 Hw Hv]
  · unfold ended
    iframe HU HO S0 S1 S2 S3 Hw Hv
  isplitl [Ho]
  · unfold ow
    icases Ho with ⟨%W', Ho⟩
    iexists W'
    isplitr; · ipureintro; exact fun _ _ => Or.inl trivial
    iexact Ho
  iexists _
  isplitr; · ipureintro; rfl
  iexact Hx

end Cert.Ag

end
-- ==== Proof.Run.lean ====
/-
Every run of the kernel on the four devices: it ends, the arguments as they were, every counter at zero,
the result computed.
-/
module

public import proofs.«01_k».proof.Proof.Launch
public import Idealize.ShloMosaic.Lib.Pipeline.CollectiveSegs

@[expose] public section

noncomputable section

namespace Cert.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-- The staging of `x` may be awaited before anything is paid and after everything is. -/
theorem stage_waits (c : Dev nD) : (levAts L lv : sProp 𝕄) ⊢ Pipeline.cellsWaits cfgs (dats m) () 0 c :=
  Pipeline.cellsWaits_intro cfgs (dats m) () 0 c fun w s t => by
    have hs : ∀ (w : Fin 1) (s : Fin ((cfgs 0).win w).nbuf), lvS (SemLoc.dma (((cfgs 0).win w).sem s)) = 0 := by decide
    rcases t with ⟨_ | _, ht⟩
    · exact mayWait_list c _ (debts c) (by
        rw [hs w s, show (debts c).map Prod.snd = [bar, bar, rcv 0, rcv 1, rcv 2, rcv 3, cbr, rcv 4, rcv 5, cbl, rcv 6, rcv 7] from rfl]
        decide)
    · exact mayWait_list c _ [] (fun k hk => absurd hk (List.not_mem_nil))

/-- The staged block is held whole. -/
theorem share_full (c : Dev nD) (w : Fin cfg0.W) : (dats m 0 c).share w = fullShare := by unfold Dat.share; split <;> rfl

/-- What a device is launched with. -/
theorem begin_intro (c : Dev nD) :
    iprop(Pipeline.unscopedRestP Pipeline.Prefetch.none cfg0.spec c (fun b => m ((c : Thread nD τ).loc b)) ∗ levAts L lv
        ∗ Pipeline.launchCred (fun d => oweL (debts d)) c ∗ prngReg c (ρ c) ∗ armed m c)
      ⊢ |={Set.univ}=> iprop(begun m c ∗ emp) := by
  rw [Pipeline.unscopedRestP_none, unscopedRest0_eq]
  unfold armed
  iintro ⟨⟨Hw, Hv⟩, #HL, HC, -, ⟨%κ, #HK, H⟩⟩
  ihave HC := (creds_intro (F := F) c) $$ HC
  ihave #HR := (recs_intro m κ) $$ [HK HL]
  · isplitr; · iexact HK
    iexact HL
  imodintro
  isplitl
  · unfold begun
    isplitl [H]
    · iexists κ
      isplitr; · iexact HR
      iexact H
    isplitl [HC]; · iexact HC
    isplitl [Hw]; · iexact Hw
    iexists _; iexact Hv
  · iempintro

/-- What the launch gives a device is what its body starts with. -/
theorem enter (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(begun m c ∗ scratch (F := F) c) from rfl, scopedRest0_eq]
  iintro ⟨H, -, Hs⟩
  isplitl [H]; · iexact H
  iexact Hs

/-- What the body ends with gives the launch its buffers and counters back. -/
theorem leave (c : Dev nD) :
    (dats m 0 c).Φ (Fin.last cfg0.N) ⊢ iprop(ended m c ∗ Pipeline.ownSems0 osem c ∗ Pipeline.scopedRest cfg0.spec c) := by
  rw [scopedRest0_eq]
  exact .rfl

/-- What a device's memory is at the end. -/
def Done (c : Dev nD) (s : MemSt nD τ sig (Elt F)) : Prop :=
  s.mem ((c : Thread nD τ).loc main_arg1) = m ((c : Thread nD τ).loc main_arg1) ∧ s.mem ((c : Thread nD τ).loc main_v1) = outF m c
    ∧ ∀ sm : SemLoc sig, sm.isScoped .tc = false → s.sem ((c.tc : Thread nD τ), sm) = 0

/-- What is held at the end is what the memory is. -/
theorem read_end (c : Dev nD) (s : Phys nD τ sig (Elt F)) :
    (iprop(ended m c ∗ emp ∗ SI s) : sProp 𝕄) ⊢ |={Set.univ}=> iprop(⌜Done m c s.mem⌝ ∗ SI s) := by
  unfold ended
  iintro ⟨⟨Hu, Hw, Hv⟩, -, HS⟩
  icombine HS Hw gives %hw
  icombine HS Hv gives %hv
  imod (Pipeline.unscopedSems0_read (X := unscopedSems0 c) (c := c) fupd_intro s) $$ [$Hu $HS] with ⟨%hu, HS⟩
  imodintro
  isplitr
  · ipureintro; exact ⟨Buf.eq_of_forall_mem_univ hw, Buf.eq_of_forall_mem_univ hv, hu⟩
  iexact HS

set_option maxRecDepth 16000 in
/-- At the mesh of four devices, for any float values, from any memory with zero counters: every fair run of the kernel
    ends, with the arguments unchanged, the result computed and every counter at zero. -/
theorem run_main : θ_run (defs (F := F)) (onTc (τ := τ) (main (F := F))) ⟨m, fun _ => 0, ρ⟩ (fun r =>
    (∀ c : Dev nD, r.2.mem ((c : Thread nD τ).loc main_v1) = outF m c ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_meets m) (hne := block_pos0) (harr := arr_whole0) (hstage := stage_whole0) (hshare := share_full m)
    (hdistinct := winFacts0.arr_inj)
    (O₀ := fun c => oweL (debts c)) (howed₀ := fun _ => rfl) (howedN := fun _ => rfl)
    (L := L) (lv := lv) (hL := L_of_ne) (hwaits := stage_waits m)
    (G := dealt m) (G' := armed m) (u₀ := launchElt)
    (hu₀ := by
      unfold launchElt
      iintro Hu
      ihave ⟨HP, HX⟩ := (ownU_pair _ _) $$ Hu
      ihave HX := (show BI.own (embR ((initOf allCells allDuties, 1) : UB × Counters)) ⊢ (BI.own (ER (initOf allCells allDuties)) : sProp 𝕄) from .rfl) $$ HX
      imod (deal m) $$ HX with HG
      imodintro
      iframe HP HG)
    (hglob := arm_all m)
    (hA := fun _ _ => rfl) (hpf := fun _ k => k.elim0)
    (X := begun m) (Y := ended m) (Z := fun _ => iprop(emp))
    (hX := begin_intro m ρ) (hin := enter m) (hout := leave m)
    (QY := Done m) (hY := read_end m)
    (hQ := fun s h hs => ⟨fun c => ⟨(h c).2.2.2.1, ((h c).1 0).trans ((dats m 0 c).arrAt_in 0 rfl _), (h c).2.2.1⟩,
      sem_eq_zero hs fun c => (h c).2.2.2.2⟩)

end Cert.Ag

end
-- ==== Proof.Value.lean ====
/-
The result with exact arithmetic: each device's is its block of the product of the whole arrays.
-/
module

public import proofs.«01_k».proof.Proof.Values
public import proofs.«01_k».proof.Proof.Gen.ReferenceIdeal
public import Idealize.ShloMosaic.Lib.KernelVsHost
public import Idealize.ShloMosaic.Lib.StackMember
public import Idealize.ShloMosaic.Lib.Layout

@[expose] public section

noncomputable section

namespace Cert.Ag

open Cert.KernelIdeal Cert.KernelIdeal.Gen

open Idealize.ShloMosaic
open Idealize.ShloMosaic.TcCoe
open Idealize.ShloMosaic.ValueIdx
open Idealize.ShloMosaic.StackMember
open scoped BigOperators

/-- An index by its two coordinates. -/
theorem at_pair {a b : ℕ} (i : (⟨2, ![a, b]⟩ : Shape).Idx) : i = ix2 (n0 := a) (n1 := b) (i 0) (i 1) := idx2_ext rfl rfl

/-- An entry of the product of 512 rows. -/
theorem prodH_at (v : FVec Ideal S512x4096 .bf16) (w : FVec Ideal S4096x2048 .bf16) (a : Fin 512) (b : Fin 2048) :
    prodH v w (ix2 a b) = ∑ k : Fin 4096, v (ix2 a k) * w (ix2 k b) := by
  unfold prodH
  rw [matmul_zero_eq_dotGeneral]
  exact dotGeneral_plain_apply (m := 512) (n := 2048) (k := 4096) none v w a b

/-- An entry of the product of 256 rows. -/
theorem prodQ_at (v : FVec Ideal S256x4096 .bf16) (w : FVec Ideal S4096x2048 .bf16) (a : Fin 256) (b : Fin 2048) :
    prodQ v w (ix2 a b) = ∑ k : Fin 4096, v (ix2 a k) * w (ix2 k b) := by
  unfold prodQ
  rw [matmul_zero_eq_dotGeneral]
  exact dotGeneral_plain_apply (m := 256) (n := 2048) (k := 4096) none v w a b

section
variable {F : FTy → Type} [FloatOps F] (m : (ℓ : Loc nD τ sig) → Buf (Elt F) ℓ)

/-- The block of `x` staged is the device's argument. -/
theorem xs_eq (c : Dev nD) : xs m c = m ((c : Thread nD τ).loc main_arg0) := by
  funext j
  refine congrArg (m ((c : Thread nD τ).loc main_arg0)) (idx2_ext (a := 1024) (b := 4096) ?_ ?_)
  · show 0 * 1024 + 1 * (j 0).val = (j 0).val; omega
  · show 0 * 4096 + 1 * (j 1).val = (j 1).val; omega
end

variable (m : (ℓ : Loc nD τ sig) → Buf (Elt Ideal) ℓ)

/-- The block of `x` of a device. -/
def xA (d : Dev nD) : FVec Ideal S1024x4096 .bf16 := m ((d : Thread nD τ).loc main_arg0)
/-- The block of the weights of a device. -/
def wA (d : Dev nD) : FVec Ideal S4096x2048 .f32 := m ((d : Thread nD τ).loc main_arg1)

/-- An entry of the result: the row of `x` of the device that owns it against the column of the weights. -/
theorem outF_at (c : Dev nD) (i : (⟨2, ![4096, 2048]⟩ : Shape).Idx) : outF m c i
    = ∑ k : Fin 4096, xA m (own i) (ix2 (n0 := 1024) (n1 := 4096) ⟨(i 0).val % 1024, Nat.mod_lt _ (by decide)⟩ k)
        * wA m c (ix2 (n0 := 4096) (n1 := 2048) k (i 1)) := by
  have hi : (i 0).val < 4096 := (i 0).isLt
  unfold outF
  split
  · refine (prodQ_at _ _ _ _).trans ?_
    refine Finset.sum_congr rfl fun k _ => ?_
    unfold xRow
    rw [xs_eq]
    refine congrArg₂ _ (congrArg _ (idx2_ext (a := 1024) (b := 4096) ?_ rfl)) rfl
    show ((i 0).val % 1024 / 256 * 256 + (i 0).val % 256) % 1024 = (i 0).val % 1024
    omega
  · refine (prodH_at _ _ _ _).trans ?_
    refine Finset.sum_congr rfl fun k _ => ?_
    unfold xRow
    rw [xs_eq]
    refine congrArg₂ _ (congrArg _ (idx2_ext (a := 1024) (b := 4096) ?_ rfl)) rfl
    show ((i 0).val % 1024 / 512 * 512 + (i 0).val % 512) % 1024 = (i 0).val % 1024
    omega

/-- The product of the whole arrays, as the reference computes it. -/
def whole (x : FVec Ideal ⟨2, ![4096, 4096]⟩ .bf16) (w : FVec Ideal ⟨2, ![4096, 8192]⟩ .f32) : FVec Ideal ⟨2, ![4096, 8192]⟩ .bf16 :=
  truncf .bf16 (Host.dotGeneral Cert.ReferenceIdeal.dot_S4096x4096_S4096x8192_S4096x8192_1_0_0_1_n_n none (extf .f32 x bitsLt_bf16_f32) w) bitsLt_bf16_f32

/-- An entry of the product of the whole arrays. -/
theorem whole_at (x : FVec Ideal ⟨2, ![4096, 4096]⟩ .bf16) (w : FVec Ideal ⟨2, ![4096, 8192]⟩ .f32) (a : Fin 4096) (b : Fin 8192) :
    whole x w (ix2 a b) = ∑ k : Fin 4096, x (ix2 a k) * w (ix2 k b) := by
  unfold whole
  exact dotGeneral_plain_apply (m := 4096) (n := 8192) (k := 4096) none (extf .f32 x bitsLt_bf16_f32) w a b

/-- Of the whole arrays cut over the devices, each device's result is its block of the product. -/
theorem outF_block (x : FVec Ideal ⟨2, ![4096, 4096]⟩ .bf16) (w : FVec Ideal ⟨2, ![4096, 8192]⟩ .f32)
    (hx : ∀ c : Dev nD, m ((c : Thread nD τ).loc main_arg0) = Layout.block ⟨2, ![1024, 4096]⟩ ⟨2, ![4096, 4096]⟩ 0 4 c x)
    (hw : ∀ c : Dev nD, m ((c : Thread nD τ).loc main_arg1) = Layout.block ⟨2, ![4096, 2048]⟩ ⟨2, ![4096, 8192]⟩ 1 4 c w) (c : Dev nD) :
    outF m c = Layout.block ⟨2, ![4096, 2048]⟩ ⟨2, ![4096, 8192]⟩ 1 4 c (whole x w) := by
  funext i
  have hi : (i 0).val < 4096 := (i 0).isLt
  rw [outF_at, Layout.block_apply, at_pair (Layout.Tiles.idx _ c i)]
  refine Eq.trans ?_ (whole_at x w _ _).symm
  unfold xA wA
  rw [hx, hw]
  refine Finset.sum_congr rfl fun k _ => congrArg₂ _ (congrArg x (idx2_ext (a := 4096) (b := 4096) ?_ rfl)) (congrArg w (idx2_ext (a := 4096) (b := 8192) rfl rfl))
  show (i 0).val / 1024 * 1024 + (i 0).val % 1024 = (i 0).val
  omega

end Cert.Ag

end
-- ==== Proof.Claims.lean ====
/-
The five claims, from the one run of the kernel and the run of the reference.
-/
module

public import proofs.«01_k».proof.Defs
public import proofs.«01_k».proof.Proof.Run
public import proofs.«01_k».proof.Proof.Value
public import proofs.«01_k».proof.Proof.Gen.Kernel
public import proofs.«01_k».proof.Proof.Gen.ReferenceIdeal.Run
public import Idealize.ShloMosaic.Lib.Quiescent

@[expose] public section

noncomputable section

namespace Cert.Ag

open Idealize.ShloMosaic
open Idealize.ShloMosaic.TcCoe
open Idealize.SL.Sem

/-- The kernel's body table is the same program as the one read with exact arithmetic: no operation is replaced. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So are the tables with the launch's region. -/
theorem tables_eq {F : FTy → Type} [FloatOps F] : Cert.Kernel.defs (F := F) = Cert.KernelIdeal.defs (F := F) :=
  congrArg (Pipeline.defs Cert.KernelIdeal.pcfgs) bodies_eq

/-- The kernel ends with its arguments unchanged and every semaphore at zero. -/
theorem frame_kernel : Cert.quiescent_Kernel := fun m ρ _ => by
  refine (congrArg (fun D => θ_run D _ _ _) tables_eq).mpr ?_
  exact (θ_run (Cert.KernelIdeal.defs (F := Bits)) _ _).mono (fun _ h => ⟨fun c => (h.1 c).2, h.2⟩) (run_main (F := Bits) m ρ)

/-- So does the kernel with exact arithmetic. -/
theorem frame_ideal : Cert.quiescent_KernelIdeal := fun m ρ _ =>
  (θ_run Cert.KernelIdeal.defs _ _).mono (fun _ h => ⟨fun c => (h.1 c).2, h.2⟩) (run_main (F := Ideal) m ρ)

/-- The reference ends with its arguments unchanged; it has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- With exact arithmetic, the devices' results are the blocks of the reference's. -/
theorem value_eq : Cert.algebraic_KernelIdeal_ReferenceIdeal := fun m ρ m' ρ' _ hB =>
  ⟨whole (m' (((0 : Dev _).tc).loc Cert.ReferenceIdeal.main_arg0)) (m' (((0 : Dev _).tc).loc Cert.ReferenceIdeal.main_arg1)),
    (θ_run Cert.KernelIdeal.defs _ _).mono
      (fun _ h c => ⟨(h.1 c).1.trans (outF_block m _ _ (fun d => (hB d).1) (fun d => (hB d).2) c), (h.1 c).2⟩) (run_main (F := Ideal) m ρ),
    (θ_run Cert.ReferenceIdeal.defs _ _).mono (fun _ h => h 0) (Cert.ReferenceIdeal.Value.run m' ρ')⟩

end Cert.Ag

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ag.frame_kernel, Cert.Ag.frame_ideal, Cert.Ag.frame_reference, trivial, Cert.Ag.value_eq⟩

end Cert.Proof

end
